-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S8x512x1024 : Shape := ⟨3, ![8, 512, 1024]⟩
abbrev S8x256x2 : Shape := ⟨3, ![8, 256, 2]⟩
abbrev S1024x1 : Shape := ⟨2, ![1024, 1]⟩
abbrev S1 : Shape := ⟨1, ![1]⟩
abbrev S2048x1024 : Shape := ⟨2, ![2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S1024 : S_.BroadcastsInDim S1024 (![] : Fin 0 → Fin S1024.rank)
  reducesTo_S1024_S_d0 : S1024.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg10 : FVec F S1024 .f32) (main_arg11 : FVec F S1024 .f32) (main_v14 : IVec S_ 1) (main_cst_6 : FVec F S_ .f32) : IVec S_ 1 :=
  let main_v15 : FVec F S1024 .f32 := broadcastInDim S1024 ![] bcast_S_S1024 main_cst_6
  let main_v16 : IVec S1024 1 := cmpf .oeq main_arg10 main_v15
  let main_c_7 : IVec S_ 1 := constantI S_ 1 1#1
  let main_v17 : IVec S_ 1 := (fun x v => Host.reduce IntOp.andi x v reducesTo_S1024_S_d0 h_S_) main_v16 main_c_7
  let main_v18 : IVec S_ 1 := andi main_v14 main_v17
  let main_cst_8 : FVec F S_ .f32 := constant S_ .f32 0x00000000#32
  let main_v19 : FVec F S1024 .f32 := broadcastInDim S1024 ![] bcast_S_S1024 main_cst_8
  let main_v20 : IVec S1024 1 := cmpf .oeq main_arg11 main_v19
  let main_c_9 : IVec S_ 1 := constantI S_ 1 1#1
  let main_v21 : IVec S_ 1 := (fun x v => Host.reduce IntOp.andi x v reducesTo_S1024_S_d0 h_S_) main_v20 main_c_9
  let main_v22 : IVec S_ 1 := andi main_v18 main_v21
  main_v22

def fn {F : FTy → Type} [FloatOps F] (main_arg0 : FVec F S8x512x1024 .f32) (main_arg1 : IVec S8x256x2 32) (main_arg2 : FVec F S1024x1 .f32) (main_arg3 : FVec F S1 .f32) (main_arg4 : FVec F S2048x1024 .f32) (main_arg5 : FVec F S1024 .f32) (main_arg6 : FVec F S1024x4096 .f32) (main_arg7 : FVec F S4096 .f32) (main_arg8 : FVec F S4096x1024 .f32) (main_arg9 : FVec F S1024 .f32) (main_arg10 : FVec F S1024 .f32) (main_arg11 : FVec F S1024 .f32) : IVec S_ 1 :=
  let main_cst : FVec F S_ .f32 := constant S_ .f32 0x00000000#32
  let main_v0 : FVec F S1 .f32 := broadcastInDim S1 ![] bcast_S_S1 main_cst
  let main_v1 : IVec S1 1 := cmpf .oeq main_arg3 main_v0
  let main_c : IVec S_ 1 := constantI S_ 1 1#1
  let main_v2 : IVec S_ 1 := (fun x v => Host.reduce IntOp.andi x v reducesTo_S1_S_d0 h_S_) main_v1 main_c
  let main_cst_0 : FVec F S_ .f32 := constant S_ .f32 0x00000000#32
  let main_v3 : FVec F S1024 .f32 := broadcastInDim S1024 ![] bcast_S_S1024 main_cst_0
  let main_v4 : IVec S1024 1 := cmpf .oeq main_arg5 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_cst_2 : FVec F S_ .f32 := constant S_ .f32 0x00000000#32
  let main_v7 : FVec F S4096 .f32 := broadcastInDim S4096 ![] bcast_S_S4096 main_cst_2
  let main_v8 : IVec S4096 1 := cmpf .oeq main_arg7 main_v7
  let main_c_3 : IVec S_ 1 := constantI S_ 1 1#1
  let main_v9 : IVec S_ 1 := (fun x v => Host.reduce IntOp.andi x v reducesTo_S4096_S_d0 h_S_) main_v8 main_c_3
  let main_v10 : IVec S_ 1 := andi main_v6 main_v9
  let main_cst_4 : FVec F S_ .f32 := constant S_ .f32 0x00000000#32
  let main_v11 : FVec F S1024 .f32 := broadcastInDim S1024 ![] bcast_S_S1024 main_cst_4
  let main_v12 : IVec S1024 1 := cmpf .oeq main_arg9 main_v11
  let main_c_5 : IVec S_ 1 := constantI S_ 1 1#1
  let main_v13 : IVec S_ 1 := (fun x v => Host.reduce IntOp.andi x v reducesTo_S1024_S_d0 h_S_) main_v12 main_c_5
  let main_v14 : IVec S_ 1 := andi main_v10 main_v13
  let main_cst_6 : FVec F S_ .f32 := constant S_ .f32 0x3F800000#32
  fn_part1 (F := F) main_arg10 main_arg11 main_v14 main_cst_6
-- ==== Kernel.lean ====
abbrev S8x512x1024 : Shape := ⟨3, ![8, 512, 1024]⟩
abbrev S8x256x2 : Shape := ⟨3, ![8, 256, 2]⟩
abbrev S1024x1 : Shape := ⟨2, ![1024, 1]⟩
abbrev S1 : Shape := ⟨1, ![1]⟩
abbrev S2048x1024 : Shape := ⟨2, ![2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x1024 : Shape := ⟨2, ![1, 1024]⟩
abbrev S8x256x1024 : Shape := ⟨3, ![8, 256, 1024]⟩
abbrev S1x256x2 : Shape := ⟨3, ![1, 256, 2]⟩
abbrev S1x512x1024 : Shape := ⟨3, ![1, 512, 1024]⟩
abbrev S1024x512 : Shape := ⟨2, ![1024, 512]⟩
abbrev S512x1024 : Shape := ⟨2, ![512, 1024]⟩
abbrev S1x256x1024 : Shape := ⟨3, ![1, 256, 1024]⟩
abbrev S2048x1 : Shape := ⟨2, ![2048, 1]⟩
abbrev S1x256x1 : Shape := ⟨3, ![1, 256, 1]⟩
abbrev S256x1 : Shape := ⟨2, ![256, 1]⟩
abbrev S256x512 : Shape := ⟨2, ![256, 512]⟩
abbrev S256 : Shape := ⟨1, ![256]⟩
abbrev S512 : Shape := ⟨1, ![512]⟩
abbrev S1x512 : Shape := ⟨2, ![1, 512]⟩
abbrev S512x512 : Shape := ⟨2, ![512, 512]⟩
abbrev S256x1024 : Shape := ⟨2, ![256, 1024]⟩
abbrev S1024x1024 : Shape := ⟨2, ![1024, 1024]⟩
abbrev S256x4096 : Shape := ⟨2, ![256, 4096]⟩
abbrev S8x256x1 : Shape := ⟨3, ![8, 256, 1]⟩
abbrev S8x256 : Shape := ⟨2, ![8, 256]⟩
abbrev S_ : Shape := ⟨0, ![]⟩

abbrev nBuf : Space → Nat
  | .hbm => 27
  | .vmem => 16
  | .smem => 0
  | _ => 0

abbrev bufTy : (tb : Table) → Fin (tcTables nBuf tb) → BufTy
  | .hbm, ⟨0, _⟩ => ⟨S8x512x1024, .f32⟩
  | .hbm, ⟨1, _⟩ => ⟨S8x256x2, .i32⟩
  | .hbm, ⟨2, _⟩ => ⟨S1024x1, .f32⟩
  | .hbm, ⟨3, _⟩ => ⟨S1, .f32⟩
  | .hbm, ⟨4, _⟩ => ⟨S2048x1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S8x256x1024, .f32⟩
  | .hbm, ⟨14, _⟩ => ⟨S8x256x1, .i32⟩
  | .hbm, ⟨15, _⟩ => ⟨S8x256, .i32⟩
  | .hbm, ⟨16, _⟩ => ⟨S8x256x1, .i32⟩
  | .hbm, ⟨17, _⟩ => ⟨S8x256, .i32⟩
  | .hbm, ⟨18, _⟩ => ⟨S_, .i32⟩
  | .hbm, ⟨19, _⟩ => ⟨S8x256, .i32⟩
  | .hbm, ⟨20, _⟩ => ⟨S8x256, .i1⟩
  | .hbm, ⟨21, _⟩ => ⟨S8x256, .i1⟩
  | .hbm, ⟨22, _⟩ => ⟨S8x256, .i1⟩
  | .hbm, ⟨23, _⟩ => ⟨S_, .i32⟩
  | .hbm, ⟨24, _⟩ => ⟨S_, .i32⟩
  | .hbm, ⟨25, _⟩ => ⟨S8x256, .i32⟩
  | .hbm, ⟨26, _⟩ => ⟨S8x256, .i32⟩
  | .local _ .vmem, ⟨0, _⟩ => ⟨S1x256x2, .i32⟩
  | .local _ .vmem, ⟨1, _⟩ => ⟨S1x256x2, .i32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S2048x1024, .f32⟩
  | .local _ .vmem, ⟨6, _⟩ => ⟨S1024x512, .f32⟩
  | .local _ .vmem, ⟨7, _⟩ => ⟨S1024x512, .f32⟩
  | .local _ .vmem, ⟨8, _⟩ => ⟨S512x1024, .f32⟩
  | .local _ .vmem, ⟨9, _⟩ => ⟨S512x1024, .f32⟩
  | .local _ .vmem, ⟨10, _⟩ => ⟨S1x256x1024, .f32⟩
  | .local _ .vmem, ⟨11, _⟩ => ⟨S1x256x1024, .f32⟩
  | .local _ .vmem, ⟨12, _⟩ => ⟨S1024x4096, .bf16⟩
  | .local _ .vmem, ⟨13, _⟩ => ⟨S4096x1024, .bf16⟩
  | .local _ .vmem, ⟨14, _⟩ => ⟨S2048x1024, .f32⟩
  | .local _ .vmem, ⟨15, _⟩ => ⟨S2048x1, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_3 : Index := 0#32
  let arg0 : BitVec 32 := BitVec.ofNat 32 (i 0).val
  let c512_i32 : BitVec 32 := 512#32
  let v8 : BitVec 32 := Scalar.muli arg0 c512_i32
  let v9 : Index := Scalar.indexCast v8
  ![0, v9.toNat]
def k0_off2 (i : grid0.Coords) : Fin 2 → Nat :=
  let arg0 : BitVec 32 := BitVec.ofNat 32 (i 0).val
  let c512_i32_6 : BitVec 32 := 512#32
  let v15 : BitVec 32 := Scalar.muli arg0 c512_i32_6
  let v16 : Index := Scalar.indexCast v15
  let c0_7 : Index := 0#32
  ![v16.toNat, 0]
def k0_off3 (i : grid0.Coords) : Fin 2 → Nat :=
  let arg0 : BitVec 32 := BitVec.ofNat 32 (i 0).val
  let c256_i32 : BitVec 32 := 256#32
  let v83 : BitVec 32 := Scalar.muli arg0 c256_i32
  let v84 : Index := Scalar.indexCast v83
  let c0_32 : Index := 0#32
  ![v84.toNat, 0]
def k0_off4 (i : grid0.Coords) : Fin 2 → Nat :=
  let arg0 : BitVec 32 := BitVec.ofNat 32 (i 0).val
  let c256_i32_33 : BitVec 32 := 256#32
  let v90 : BitVec 32 := Scalar.muli arg0 c256_i32_33
  let v91 : Index := Scalar.indexCast v90
  let c0_34 : Index := 0#32
  ![v91.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_off5 (i : grid0.Coords) : Fin 2 → Nat :=
  let arg0 : BitVec 32 := BitVec.ofNat 32 (i 0).val
  let c8_i32_2 : BitVec 32 := 8#32
  let v6 : BitVec 32 := Scalar.subi arg0 c8_i32_2
  let c256_i32 : BitVec 32 := 256#32
  let v7 : BitVec 32 := Scalar.muli v6 c256_i32
  let v8 : Index := Scalar.indexCast v7
  let c0 : Index := 0#32
  ![v8.toNat, 0]
def k0_off6 (i : grid0.Coords) : Fin 2 → Nat :=
  let arg0 : BitVec 32 := BitVec.ofNat 32 (i 0).val
  let c8_i32_2 : BitVec 32 := 8#32
  let v6 : BitVec 32 := Scalar.subi arg0 c8_i32_2
  let c256_i32_16 : BitVec 32 := 256#32
  let v43 : BitVec 32 := Scalar.muli v6 c256_i32_16
  let v44 : Index := Scalar.indexCast v43
  let c0_17 : Index := 0#32
  ![v44.toNat, 0]
def cc0_transform_0 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x256x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x512x1024 : Shape := ⟨3, ![8, 512, 1024]⟩
abbrev S8x256x2 : Shape := ⟨3, ![8, 256, 2]⟩
abbrev S1024x1 : Shape := ⟨2, ![1024, 1]⟩
abbrev S1 : Shape := ⟨1, ![1]⟩
abbrev S2048x1024 : Shape := ⟨2, ![2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8x256x1 : Shape := ⟨3, ![8, 256, 1]⟩
abbrev S8x256 : Shape := ⟨2, ![8, 256]⟩
abbrev S_ : Shape := ⟨0, ![]⟩
abbrev S512 : Shape := ⟨1, ![512]⟩
abbrev S1x1x512 : Shape := ⟨3, ![1, 1, 512]⟩
abbrev S8x256x512 : Shape := ⟨3, ![8, 256, 512]⟩
abbrev S8x256x1024 : Shape := ⟨3, ![8, 256, 1024]⟩
abbrev S8x512x1 : Shape := ⟨3, ![8, 512, 1]⟩
abbrev S8x512 : Shape := ⟨2, ![8, 512]⟩
abbrev S8x1x512 : Shape := ⟨3, ![8, 1, 512]⟩
abbrev S8x256x2048 : Shape := ⟨3, ![8, 256, 2048]⟩
abbrev S1x1x1024 : Shape := ⟨3, ![1, 1, 1024]⟩
abbrev S8x256x4096 : Shape := ⟨3, ![8, 256, 4096]⟩
abbrev S1x1x4096 : Shape := ⟨3, ![1, 1, 4096]⟩

abbrev nBuf : Space → Nat
  | .hbm => 149
  | .vmem => 0
  | .smem => 0
  | _ => 0

abbrev hbmTy0_0 (i : Nat) : BufTy := match i % 128 with
  | 0 => ⟨S8x512x1024, .f32⟩
  | 1 => ⟨S8x256x2, .i32⟩
  | 2 => ⟨S1024x1, .f32⟩
  | 3 => ⟨S1, .f32⟩
  | 4 => ⟨S2048x1024, .f32⟩
  | 5 => ⟨S1024, .f32⟩
  | 6 => ⟨S1024x4096, .f32⟩
  | 7 => ⟨S4096, .f32⟩
  | 8 => ⟨S4096x1024, .f32⟩
  | 9 => ⟨S1024, .f32⟩
  | 10 => ⟨S1024, .f32⟩
  | 11 => ⟨S1024, .f32⟩
  | 12 => ⟨S8x256x1, .i32⟩
  | 13 => ⟨S8x256, .i32⟩
  | 14 => ⟨S8x256x1, .i32⟩
  | 15 => ⟨S8x256, .i32⟩
  | 16 => ⟨S_, .i32⟩
  | 17 => ⟨S8x256, .i32⟩
  | 18 => ⟨S8x256, .i1⟩
  | 19 => ⟨S8x256, .i1⟩
  | 20 => ⟨S8x256, .i1⟩
  | 21 => ⟨S512, .i32⟩
  | 22 => ⟨S1x1x512, .i32⟩
  | 23 => ⟨S8x256x1, .i32⟩
  | 24 => ⟨S8x256x512, .i32⟩
  | 25 => ⟨S8x256x512, .i32⟩
  | 26 => ⟨S8x256x512, .i1⟩
  | 27 => ⟨S1x1x512, .i32⟩
  | 28 => ⟨S8x256x1, .i32⟩
  | 29 => ⟨S8x256x512, .i32⟩
  | 30 => ⟨S8x256x512, .i32⟩
  | 31 => ⟨S8x256x512, .i1⟩
  | 32 => ⟨S8x256x512, .i1⟩
  | 33 => ⟨S8x256x1, .i1⟩
  | 34 => ⟨S8x256x512, .i1⟩
  | 35 => ⟨S8x256x512, .i1⟩
  | 36 => ⟨S8x256x512, .f32⟩
  | 37 => ⟨S_, .f32⟩
  | 38 => ⟨S8x256, .f32⟩
  | 39 => ⟨S8x256x1, .f32⟩
  | 40 => ⟨S_, .f32⟩
  | 41 => ⟨S_, .f32⟩
  | 42 => ⟨S8x256x1, .f32⟩
  | 43 => ⟨S8x256x1, .f32⟩
  | 44 => ⟨S8x256x1024, .f32⟩
  | 45 => ⟨S8x256x1024, .f32⟩
  | 46 => ⟨S8x256x1024, .f32⟩
  | 47 => ⟨S8x512x1, .f32⟩
  | 48 => ⟨S8x512, .f32⟩
  | 49 => ⟨S_, .f32⟩
  | 50 => ⟨S8x512, .f32⟩
  | 51 => ⟨S8x512, .f32⟩
  | 52 => ⟨S8x1x512, .f32⟩
  | 53 => ⟨S_, .f32⟩
  | 54 => ⟨S_, .f32⟩
  | 55 => ⟨S8x256x512, .f32⟩
  | 56 => ⟨S8x256x512, .f32⟩
  | 57 => ⟨S8x256x512, .f32⟩
  | 58 => ⟨S_, .f32⟩
  | 59 => ⟨S8x256, .f32⟩
  | 60 => ⟨S8x256x1, .f32⟩
  | 61 => ⟨S8x256x512, .f32⟩
  | 62 => ⟨S8x256x512, .f32⟩
  | 63 => ⟨S8x256x512, .f32⟩
  | 64 => ⟨S8x256x512, .f32⟩
  | 65 => ⟨S_, .f32⟩
  | 66 => ⟨S8x256, .f32⟩
  | 67 => ⟨S8x256x1, .f32⟩
  | 68 => ⟨S_, .f32⟩
  | 69 => ⟨S_, .f32⟩
  | 70 => ⟨S8x256x1, .f32⟩
  | 71 => ⟨S8x256x1, .f32⟩
  | 72 => ⟨S8x256x512, .f32⟩
  | 73 => ⟨S8x256x512, .f32⟩
  | 74 => ⟨S8x256x1024, .f32⟩
  | 75 => ⟨S8x256x2048, .f32⟩
  | 76 => ⟨S8x256x1024, .f32⟩
  | 77 => ⟨S1x1x1024, .f32⟩
  | 78 => ⟨S8x256x1024, .f32⟩
  | 79 => ⟨S8x256x1024, .f32⟩
  | 80 => ⟨S8x256x1024, .f32⟩
  | 81 => ⟨S8x256x1024, .f32⟩
  | 82 => ⟨S_, .f32⟩
  | 83 => ⟨S8x256x1024, .f32⟩
  | 84 => ⟨S8x256x1024, .f32⟩
  | 85 => ⟨S_, .f32⟩
  | 86 => ⟨S8x256x1024, .f32⟩
  | 87 => ⟨S8x256x1024, .f32⟩
  | 88 => ⟨S8x256x1024, .f32⟩
  | 89 => ⟨S_, .f32⟩
  | 90 => ⟨S8x256x1024, .f32⟩
  | 91 => ⟨S8x256x1024, .f32⟩
  | 92 => ⟨S8x256x1024, .f32⟩
  | 93 => ⟨S8x256x1024, .f32⟩
  | 94 => ⟨S8x256x4096, .f32⟩
  | 95 => ⟨S1x1x4096, .f32⟩
  | 96 => ⟨S8x256x4096, .f32⟩
  | 97 => ⟨S8x256x4096, .f32⟩
  | 98 => ⟨S_, .f32⟩
  | 99 => ⟨S8x256x4096, .f32⟩
  | 100 => ⟨S8x256x4096, .f32⟩
  | 101 => ⟨S8x256x4096, .f32⟩
  | 102 => ⟨S_, .f32⟩
  | 103 => ⟨S8x256x4096, .f32⟩
  | 104 => ⟨S8x256x4096, .f32⟩
  | 105 => ⟨S8x256x4096, .f32⟩
  | 106 => ⟨S8x256x4096, .f32⟩
  | 107 => ⟨S8x256x1024, .f32⟩
  | 108 => ⟨S1x1x1024, .f32⟩
  | 109 => ⟨S8x256x1024, .f32⟩
  | 110 => ⟨S8x256x1024, .f32⟩
  | 111 => ⟨S8x256x1024, .f32⟩
  | 112 => ⟨S_, .f32⟩
  | 113 => ⟨S8x256, .f32⟩
  | 114 => ⟨S8x256x1, .f32⟩
  | 115 => ⟨S_, .f32⟩
  | 116 => ⟨S8x256x1, .f32⟩
  | 117 => ⟨S8x256x1, .f32⟩
  | 118 => ⟨S8x256x1024, .f32⟩
  | 119 => ⟨S8x256x1024, .f32⟩
  | 120 => ⟨S8x256x1024, .f32⟩
  | 121 => ⟨S_, .f32⟩
  | 122 => ⟨S8x256, .f32⟩
  | 123 => ⟨S8x256x1, .f32⟩
  | 124 => ⟨S_, .f32⟩
  | 125 => ⟨S8x256x1, .f32⟩
  | 126 => ⟨S8x256x1, .f32⟩
  | 127 => ⟨S8x256x1024, .f32⟩
  | _ => ⟨S8x512x1024, .f32⟩

abbrev hbmTy0_1 (i : Nat) : BufTy := match i % 128 with
  | 0 => ⟨S8x256x1024, .f32⟩
  | 1 => ⟨S_, .f32⟩
  | 2 => ⟨S8x256x1, .f32⟩
  | 3 => ⟨S8x256x1, .f32⟩
  | 4 => ⟨S8x256x1, .f32⟩
  | 5 => ⟨S8x256x1024, .f32⟩
  | 6 => ⟨S8x256x1024, .f32⟩
  | 7 => ⟨S1x1x1024, .f32⟩
  | 8 => ⟨S8x256x1024, .f32⟩
  | 9 => ⟨S8x256x1024, .f32⟩
  | 10 => ⟨S1x1x1024, .f32⟩
  | 11 => ⟨S8x256x1024, .f32⟩
  | 12 => ⟨S8x256x1024, .f32⟩
  | 13 => ⟨S8x256x1, .i1⟩
  | 14 => ⟨S8x256x1, .f32⟩
  | 15 => ⟨S8x256x1024, .f32⟩
  | 16 => ⟨S8x256x1024, .f32⟩
  | 17 => ⟨S_, .i32⟩
  | 18 => ⟨S_, .i32⟩
  | 19 => ⟨S8x256, .i32⟩
  | 20 => ⟨S8x256, .i32⟩
  | _ => ⟨S8x512x1024, .f32⟩

abbrev hbmTy (i : Nat) : BufTy := match i / 128 with
  | 0 => hbmTy0_0 i
  | 1 => hbmTy0_1 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_1 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_5 : Ref sig .tc := ⟨.hbm, 82, rfl⟩
abbrev main_v56 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_8 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_cst_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_cst_13 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_14 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_15 : Ref sig .tc := ⟨.hbm, 145, rfl⟩
abbrev main_call3_v0 : Ref sig .tc := ⟨.hbm, 146, rfl⟩
abbrev main_call3_v1 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== Proof.RunA.lean ====
/- The body's run in the first phase, and what the two phases compute. -/
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the two phases compute, as functions of the blocks they read -/

/-- The starts and the ends of a block of spans: its two columns. -/
abbrev startsOf (x0 : Vec F S1x256x2 .i32) : Vec F S1x256x1 .i32 :=
  VecWindow.window x0 ![0, 0, 0] S1x256x1.size inb_S1x256x2_S1x256x1_0_0_0
abbrev endsOf (x0 : Vec F S1x256x2 .i32) : Vec F S1x256x1 .i32 :=
  VecWindow.window x0 ![0, 0, 1] S1x256x1.size inb_S1x256x2_S1x256x1_0_0_1
/-- The two halves of the gate's weight. -/
abbrev topOf (x3 : Vec F S2048x1024 .f32) : Vec F S1024x1024 .f32 :=
  VecWindow.window x3 ![0, 0] S1024x1024.size inb_S2048x1024_S1024x1024_0_0
abbrev botOf (x3 : Vec F S2048x1024 .f32) : Vec F S1024x1024 .f32 :=
  VecWindow.window x3 ![1024, 0] S1024x1024.size inb_S2048x1024_S1024x1024_1024_0

/-- The fused rows of one batch. -/
def fusedOf (x0 : Vec F S1x256x2 .i32) (x1 : Vec F S1x512x1024 .f32) (x2 : Vec F S1x1024 .f32) (x3 : Vec F S2048x1024 .f32) :
    FVec F S256x1024 .f32 :=
  k0_pay1 (k0_pay13 (k0_pay6 x1) (k0_pay10 (startsOf x0) (endsOf x0)) (k0_pay11 (startsOf x0) (endsOf x0))
    (k0_pay12 (startsOf x0) (endsOf x0)) x2 (topOf x3) (botOf x3))

/-- Which of its spans are valid, as floats. -/
def validOf (x0 : Vec F S1x256x2 .i32) : FVec F S256x1 .f32 := k0_pay2 (k0_pay9 (startsOf x0) (endsOf x0))

/-- The output block of one batch from its fused rows `f`, the two matrices of the MLP and the valid column. -/
def outOf (f : Vec F S256x1024 .f32) (w1 : Vec F S1024x4096 .bf16) (w2 : Vec F S4096x1024 .bf16) (v : Vec F S256x1 .f32) :
    FVec F S1x256x1024 .f32 := k0_pay3 (k0_pay14 f w1 w2) (k0_pay15 v)

set_option maxHeartbeats 1600000 in
/-- The body in the first phase (points 0 to 7), on whole staging memrefs and scratch at named contents: the block's
    weights are put at their columns and rows, its fused rows and its valid column at its rows; the output's buffer is left as found. -/
theorem runA (c : Dev nD) (i : grid0.Coords) (arg1 : Memref sig .tc .vmem S1x256x2 .i32) (harg1 : arg1.IsWhole) (arg2 : Memref sig .tc .vmem S1x512x1024 .f32) (harg2 : arg2.IsWhole) (arg3 : Memref sig .tc .vmem S1x1024 .f32) (harg3 : arg3.IsWhole) (arg4 : Memref sig .tc .vmem S2048x1024 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S1x256x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S2048x1024 .f32) (harg10 : arg10.IsWhole) (arg11 : Memref sig .tc .vmem S2048x1 .f32) (harg11 : arg11.IsWhole) (hc0 : k0_cond1 i = 1#1) (hc1 : ¬k0_cond2 i = 1#1)
    (x0 : Vec F S1x256x2 .i32) (x1 : Vec F S1x512x1024 .f32) (x2 : Vec F S1x1024 .f32) (x3 : Vec F S2048x1024 .f32) (x4 : Vec F S1024x512 .f32) (x5 : Vec F S512x1024 .f32) (d7 : Vec F S1024x4096 .bf16) (d8 : Vec F S4096x1024 .bf16) (d9 : Vec F S2048x1024 .f32) (d10 : Vec F S2048x1 .f32) (d6 : Vec F S1x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d7 ∗ owns (c : Thread nD τ) arg9 fullShare d8 ∗ owns (c : Thread nD τ) arg10 fullShare d9 ∗ owns (c : Thread nD τ) arg11 fullShare d10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare (VecWindow.put d7 (k0_off1 i) S1024x512.size (k0_pay4 x4)) ∗ owns (c : Thread nD τ) arg9 fullShare (VecWindow.put d8 (k0_off2 i) S512x1024.size (k0_pay5 x5)) ∗ owns (c : Thread nD τ) arg10 fullShare (VecWindow.put d9 (k0_off3 i) S256x1024.size (fusedOf x0 x1 x2 x3)) ∗ owns (c : Thread nD τ) arg11 fullShare (VecWindow.put d10 (k0_off4 i) S256x1.size (validOf x0))) -∗ K ⟨⟩))
          ⊢ wp frame (wpE (defs₀ (F := F)) Variants.none c none) E (cc0__merged_kernel i arg1 harg1 arg2 harg2 arg3 harg3 arg4 harg4 arg5 harg5 arg6 harg6 arg7 harg7 arg8 harg8 arg9 harg9 arg10 harg10 arg11 harg11) K := by
    intro E K
    simp only [cc0__merged_kernel_eq_skeleton]; unfold cc0__merged_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, ⟨%fs3, %hs3, HS3⟩, Hk⟩
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [HS0]
    · iexists _; isplitr; swap; · iexact HS0
      ipureintro; rw [View.read_writes_cons_put _ _ _ _ _ rfl, View.writes_nil, hs0]; sl_unfold_words
      have e4 : arg5.view.readAt (Elt F) (Rect.unit (s := S1024x512) ![0, 0] S1024x512.size inb_S1024x512_S1024x512_0_0).toLoadRect f4 = x4 := (View.readAt_full _ _ _).trans hf4
      exact congrArg (fun z => VecWindow.put d7 (k0_off1 i) S1024x512.size (k0_pay4 z)) e4
    isplitl [HS1]
    · iexists _; isplitr; swap; · iexact HS1
      ipureintro; rw [View.read_writes_cons_put _ _ _ _ _ rfl, View.writes_nil, hs1]; sl_unfold_words
      have e5 : arg6.view.readAt (Elt F) (Rect.unit (s := S512x1024) ![0, 0] S512x1024.size inb_S512x1024_S512x1024_0_0).toLoadRect f5 = x5 := (View.readAt_full _ _ _).trans hf5
      exact congrArg (fun z => VecWindow.put d8 (k0_off2 i) S512x1024.size (k0_pay5 z)) e5
    isplitl [HS2]
    · iexists _; isplitr; swap; · iexact HS2
      ipureintro; rw [View.read_writes_cons_put _ _ _ _ _ rfl, View.writes_nil, hs2]; sl_unfold_words
      have e1 : arg2.view.readAt (Elt F) (Rect.unit (s := S1x512x1024) ![0, 0, 0] S1x512x1024.size inb_S1x512x1024_S1x512x1024_0_0_0).toLoadRect f1 = x1 := (View.readAt_full _ _ _).trans hf1
      have e2 : arg3.view.readAt (Elt F) (Rect.unit (s := S1x1024) ![0, 0] S1x1024.size inb_S1x1024_S1x1024_0_0).toLoadRect f2 = x2 := (View.readAt_full _ _ _).trans hf2
      subst hf0 hf3
      exact congrArg₂ (fun z y => VecWindow.put d9 (k0_off3 i) S256x1024.size (fusedOf (arg1.view.read (Elt F) f0) z y (arg4.view.read (Elt F) f3))) e1 e2
    iexists _; isplitr; swap; · iexact HS3
    ipureintro; rw [View.read_writes_cons_put _ _ _ _ _ rfl, View.writes_nil, hs3]; sl_unfold_words
    subst hf0; rfl

end Cert.KernelIdeal.Hand

end
-- ==== Proof.RunB.lean ====
/- The body's run in the second phase. -/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- The body in the second phase (points 8 to 15): the scratch is left as found, the output's buffer holds the block
    computed from the scratch's rows and the whole matrices. -/
theorem runB (c : Dev nD) (i : grid0.Coords) (arg1 : Memref sig .tc .vmem S1x256x2 .i32) (harg1 : arg1.IsWhole) (arg2 : Memref sig .tc .vmem S1x512x1024 .f32) (harg2 : arg2.IsWhole) (arg3 : Memref sig .tc .vmem S1x1024 .f32) (harg3 : arg3.IsWhole) (arg4 : Memref sig .tc .vmem S2048x1024 .f32) (harg4 : arg4.IsWhole) (arg5 : Memref sig .tc .vmem S1024x512 .f32) (harg5 : arg5.IsWhole) (arg6 : Memref sig .tc .vmem S512x1024 .f32) (harg6 : arg6.IsWhole) (arg7 : Memref sig .tc .vmem S1x256x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S2048x1024 .f32) (harg10 : arg10.IsWhole) (arg11 : Memref sig .tc .vmem S2048x1 .f32) (harg11 : arg11.IsWhole) (hc0 : ¬k0_cond1 i = 1#1) (hc1 : k0_cond2 i = 1#1)
    (x0 : Vec F S1x256x2 .i32) (x1 : Vec F S1x512x1024 .f32) (x2 : Vec F S1x1024 .f32) (x3 : Vec F S2048x1024 .f32) (x4 : Vec F S1024x512 .f32) (x5 : Vec F S512x1024 .f32) (d7 : Vec F S1024x4096 .bf16) (d8 : Vec F S4096x1024 .bf16) (d9 : Vec F S2048x1024 .f32) (d10 : Vec F S2048x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d7 ∗ owns (c : Thread nD τ) arg9 fullShare d8 ∗ owns (c : Thread nD τ) arg10 fullShare d9 ∗ owns (c : Thread nD τ) arg11 fullShare d10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outOf (VecWindow.window d9 (k0_off5 i) S256x1024.size (k0_off5_inb i hc1)) d7 d8 (VecWindow.window d10 (k0_off6 i) S256x1.size (k0_off6_inb i hc1))) ∗ owns (c : Thread nD τ) arg8 fullShare d7 ∗ owns (c : Thread nD τ) arg9 fullShare d8 ∗ owns (c : Thread nD τ) arg10 fullShare d9 ∗ owns (c : Thread nD τ) arg11 fullShare d10) -∗ K ⟨⟩))
          ⊢ wp frame (wpE (defs₀ (F := F)) Variants.none c none) E (cc0__merged_kernel i arg1 harg1 arg2 harg2 arg3 harg3 arg4 harg4 arg5 harg5 arg6 harg6 arg7 harg7 arg8 harg8 arg9 harg9 arg10 harg10 arg11 harg11) K := by
    intro E K
    simp only [cc0__merged_kernel_eq_skeleton]; unfold cc0__merged_kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%fs2, %hs2, HS2⟩, ⟨%fs3, %hs3, HS3⟩, Hk⟩
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      rw [View.read_writes_full]
      sl_unfold_words
      have e0 : arg8.view.readAt (Elt F) (Rect.unit (s := S1024x4096) ![0, 0] S1024x4096.size inb_S1024x4096_S1024x4096_0_0).toLoadRect fs0 = d7 := (View.readAt_full _ _ _).trans hs0
      have e1 : arg9.view.readAt (Elt F) (Rect.unit (s := S4096x1024) ![0, 0] S4096x1024.size inb_S4096x1024_S4096x1024_0_0).toLoadRect fs1 = d8 := (View.readAt_full _ _ _).trans hs1
      subst hs2 hs3
      exact congrArg₂ (fun z y => outOf (VecWindow.window (arg10.view.read (Elt F) fs2) (k0_off5 i) S256x1024.size (k0_off5_inb i hc1)) z y (VecWindow.window (arg11.view.read (Elt F) fs3) (k0_off6 i) S256x1.size (k0_off6_inb i hc1))) e0 e1
    isplitl [HS0]
    · iexists _; isplitr; swap; · iexact HS0
      ipureintro; exact hs0
    isplitl [HS1]
    · iexists _; isplitr; swap; · iexact HS1
      ipureintro; exact hs1
    isplitl [HS2]
    · iexists _; isplitr; swap; · iexact HS2
      ipureintro; exact hs2
    iexists _; isplitr; swap; · iexact HS3
    ipureintro; exact hs3

end Cert.KernelIdeal.Hand

end
-- ==== Proof.Data.lean ====
/- The scratch buffers filled block by block: the proof data of the kernel's pipeline, its body obligation and its run. -/
module

public import proofs.«01_k».proof.Proof.RunB
public import Idealize.ShloMosaic.Lib.ValueIdxCore
public import Idealize.ShloMosaic.Lib.Pipeline.Value
public import Idealize.ShloMosaic.Lib.Quiescent
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx (ix2 ix3)

variable {F : FTy → Type} [FloatOps F]

local notation "𝕄" => MT nD τ sig Unit (Elt F) ℕ (UR sig nD τ) ℕ

/-! ## Arrays laid out in blocks of rows or of columns -/

section Blocks
variable {α : Type} {R C B : ℕ}

/-- The array whose block of rows `n` is `g n`. -/
def rowsOf (R C B : ℕ) (hB : 0 < B) (g : ℕ → (⟨2, ![B, C]⟩ : Shape).Idx → α) : (⟨2, ![R, C]⟩ : Shape).Idx → α :=
  fun y => g ((y 0).val / B) (ix2 ⟨(y 0).val % B, Nat.mod_lt _ hB⟩ (y 1))
/-- The array whose block of columns `n` is `g n`. -/
def colsOf (R C B : ℕ) (hB : 0 < B) (g : ℕ → (⟨2, ![R, B]⟩ : Shape).Idx → α) : (⟨2, ![R, C]⟩ : Shape).Idx → α :=
  fun y => g ((y 1).val / B) (ix2 (y 0) ⟨(y 1).val % B, Nat.mod_lt _ hB⟩)

theorem rowsOf_at (hB : 0 < B) (g : ℕ → (⟨2, ![B, C]⟩ : Shape).Idx → α) (n : ℕ) (y : (⟨2, ![R, C]⟩ : Shape).Idx) (z : (⟨2, ![B, C]⟩ : Shape).Idx)
    (h0 : (y 0).val = B * n + (z 0).val) (h1 : (y 1).val = (z 1).val) : rowsOf R C B hB g y = g n z := by
  have hz : (z 0).val < B := (z 0).isLt
  have hd : (y 0).val / B = n := by rw [h0, Nat.mul_add_div hB, Nat.div_eq_of_lt hz, Nat.add_zero]
  have hm : (y 0).val % B = (z 0).val := by rw [h0, Nat.mul_add_mod, Nat.mod_eq_of_lt hz]
  unfold rowsOf
  rw [hd]
  refine congrArg (g n) (funext fun a => Fin.ext ?_)
  match a with
  | ⟨0, _⟩ => exact hm
  | ⟨1, _⟩ => exact h1
theorem colsOf_at (hB : 0 < B) (g : ℕ → (⟨2, ![R, B]⟩ : Shape).Idx → α) (n : ℕ) (y : (⟨2, ![R, C]⟩ : Shape).Idx) (z : (⟨2, ![R, B]⟩ : Shape).Idx)
    (h0 : (y 0).val = (z 0).val) (h1 : (y 1).val = B * n + (z 1).val) : colsOf R C B hB g y = g n z := by
  have hz : (z 1).val < B := (z 1).isLt
  have hd : (y 1).val / B = n := by rw [h1, Nat.mul_add_div hB, Nat.div_eq_of_lt hz, Nat.add_zero]
  have hm : (y 1).val % B = (z 1).val := by rw [h1, Nat.mul_add_mod, Nat.mod_eq_of_lt hz]
  unfold colsOf
  rw [hd]
  refine congrArg (g n) (funext fun a => Fin.ext ?_)
  match a with
  | ⟨0, _⟩ => exact h0
  | ⟨1, _⟩ => exact hm

/-- Putting block `n` extends the rows known by one block. -/
theorem put_rows (hB : 0 < B) (g : ℕ → (⟨2, ![B, C]⟩ : Shape).Idx → α) (n : ℕ) (d : (⟨2, ![R, C]⟩ : Shape).Idx → α)
    (off : Fin 2 → ℕ) (ho : off = ![B * n, 0]) (w : (⟨2, ![B, C]⟩ : Shape).Idx → α) (hw : w = g n)
    (hd : ∀ y : (⟨2, ![R, C]⟩ : Shape).Idx, (y 0).val < B * n → d y = rowsOf R C B hB g y) (y : (⟨2, ![R, C]⟩ : Shape).Idx) (hy : (y 0).val < B * (n + 1)) :
    VecWindow.put (s := ⟨2, ![R, C]⟩) d off ![B, C] w y = rowsOf R C B hB g y := by
  subst ho hw
  unfold VecWindow.put
  split
  · rename_i h
    have h0 : B * n ≤ (y 0).val := (h 0).1
    refine (rowsOf_at hB g n y _ ?_ ?_).symm
    · show (y 0).val = B * n + ((y 0).val - B * n); omega
    · show (y 1).val = (y 1).val - 0; omega
  · rename_i h
    refine hd y (Nat.lt_of_not_le fun h0 => h fun a => ?_)
    match a with
    | ⟨0, _⟩ => exact ⟨h0, by show (y 0).val < B * n + B; rw [Nat.mul_succ] at hy; exact hy⟩
    | ⟨1, _⟩ => exact ⟨Nat.zero_le _, by show (y 1).val < 0 + C; rw [Nat.zero_add]; exact (y 1).isLt⟩
/-- Putting block `n` extends the columns known by one block. -/
theorem put_cols (hB : 0 < B) (g : ℕ → (⟨2, ![R, B]⟩ : Shape).Idx → α) (n : ℕ) (d : (⟨2, ![R, C]⟩ : Shape).Idx → α)
    (off : Fin 2 → ℕ) (ho : off = ![0, B * n]) (w : (⟨2, ![R, B]⟩ : Shape).Idx → α) (hw : w = g n)
    (hd : ∀ y : (⟨2, ![R, C]⟩ : Shape).Idx, (y 1).val < B * n → d y = colsOf R C B hB g y) (y : (⟨2, ![R, C]⟩ : Shape).Idx) (hy : (y 1).val < B * (n + 1)) :
    VecWindow.put (s := ⟨2, ![R, C]⟩) d off ![R, B] w y = colsOf R C B hB g y := by
  subst ho hw
  unfold VecWindow.put
  split
  · rename_i h
    have h1 : B * n ≤ (y 1).val := (h 1).1
    refine (colsOf_at hB g n y _ ?_ ?_).symm
    · show (y 0).val = (y 0).val - 0; omega
    · show (y 1).val = B * n + ((y 1).val - B * n); omega
  · rename_i h
    refine hd y (Nat.lt_of_not_le fun h1 => h fun a => ?_)
    match a with
    | ⟨0, _⟩ => exact ⟨Nat.zero_le _, by show (y 0).val < 0 + R; rw [Nat.zero_add]; exact (y 0).isLt⟩
    | ⟨1, _⟩ => exact ⟨h1, by show (y 1).val < B * n + B; rw [Nat.mul_succ] at hy; exact hy⟩

/-- The window at block `n` of rows is block `n`. -/
theorem window_rows (hB : 0 < B) (g : ℕ → (⟨2, ![B, C]⟩ : Shape).Idx → α) (n : ℕ) (off : Fin 2 → ℕ) (ho : off = ![B * n, 0])
    (inb : ∀ a, off a + (![B, C] : Fin 2 → ℕ) a ≤ (⟨2, ![R, C]⟩ : Shape).size a) :
    VecWindow.window (s := ⟨2, ![R, C]⟩) (rowsOf R C B hB g) off ![B, C] inb = g n := by
  subst ho
  funext z
  refine rowsOf_at hB g n _ z ?_ ?_
  · show B * n + 1 * (z 0).val = _; omega
  · show 0 + 1 * (z 1).val = _; omega
end Blocks

/-! ## The points, in closed form -/

theorem first_iff : ∀ t : Fin cfg0.N, k0_cond1 (grid0.coords t) = 1#1 ↔ t.val < 8 :=
  (by decide +kernel : ∀ t : Fin grid0.N, k0_cond1 (grid0.coords t) = 1#1 ↔ t.val < 8)
theorem second_iff : ∀ t : Fin cfg0.N, k0_cond2 (grid0.coords t) = 1#1 ↔ 8 ≤ t.val :=
  (by decide +kernel : ∀ t : Fin grid0.N, k0_cond2 (grid0.coords t) = 1#1 ↔ 8 ≤ t.val)
theorem off1_at : ∀ t : Fin cfg0.N, k0_off1 (grid0.coords t) = ![0, 512 * t.val] :=
  (by decide +kernel : ∀ t : Fin grid0.N, k0_off1 (grid0.coords t) = ![0, 512 * t.val])
theorem off2_at : ∀ t : Fin cfg0.N, k0_off2 (grid0.coords t) = ![512 * t.val, 0] :=
  (by decide +kernel : ∀ t : Fin grid0.N, k0_off2 (grid0.coords t) = ![512 * t.val, 0])
theorem off3_at : ∀ t : Fin cfg0.N, k0_off3 (grid0.coords t) = ![256 * t.val, 0] :=
  (by decide +kernel : ∀ t : Fin grid0.N, k0_off3 (grid0.coords t) = ![256 * t.val, 0])
theorem off4_at : ∀ t : Fin cfg0.N, k0_off4 (grid0.coords t) = ![256 * t.val, 0] :=
  (by decide +kernel : ∀ t : Fin grid0.N, k0_off4 (grid0.coords t) = ![256 * t.val, 0])
theorem off5_at : ∀ t : Fin cfg0.N, 8 ≤ t.val → k0_off5 (grid0.coords t) = ![256 * (t.val - 8), 0] :=
  (by decide +kernel : ∀ t : Fin grid0.N, 8 ≤ t.val → k0_off5 (grid0.coords t) = ![256 * (t.val - 8), 0])
theorem off6_at : ∀ t : Fin cfg0.N, 8 ≤ t.val → k0_off6 (grid0.coords t) = ![256 * (t.val - 8), 0] :=
  (by decide +kernel : ∀ t : Fin grid0.N, 8 ≤ t.val → k0_off6 (grid0.coords t) = ![256 * (t.val - 8), 0])
theorem unflushed_first : ∀ t : Fin cfg0.N, t.val < 8 → (cfg0.win 6).flush t = false :=
  (by decide +kernel : ∀ t : Fin grid0.N, t.val < 8 → (cfg0.win 6).flush t = false)
theorem flushed_second : ∀ t : Fin cfg0.N, (cfg0.win 6).flush t = true ↔ 8 ≤ t.val :=
  (by decide +kernel : ∀ t : Fin grid0.N, (cfg0.win 6).flush t = true ↔ 8 ≤ t.val)
theorem idle_first : ∀ t : Fin cfg0.N, t.val < 8 → cfg0.idle 6 (grid0.coords t) = true :=
  (by decide +kernel : ∀ t : Fin grid0.N, t.val < 8 → cfg0.idle 6 (grid0.coords t) = true)
theorem live_second : ∀ t : Fin cfg0.N, 8 ≤ t.val → cfg0.idle 6 (grid0.coords t) = false :=
  (by decide +kernel : ∀ t : Fin grid0.N, 8 ≤ t.val → cfg0.idle 6 (grid0.coords t) = false)
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl

/-! ## What the scratch buffers are filled with -/

variable (m : (ℓ : Loc nD τ sig) → Buf (Elt F) ℓ) (ρ : Dev nD → PrngReg)

/-- Point `j` of the grid. -/
def pt (j : ℕ) : Fin cfg0.N := ⟨j % 16, by rw [show cfg0.N = 16 from N_0]; exact Nat.mod_lt _ (by decide)⟩
theorem pt_val (t : Fin cfg0.N) : pt t.val = t := Fin.ext (Nat.mod_eq_of_lt (lt_of_lt_of_eq t.isLt (show cfg0.N = 16 from N_0)))

/-- The fused rows and the valid column of batch `j`, from the blocks point `j` reads. -/
def fusedAt (c : Dev nD) (j : ℕ) : FVec F S256x1024 .f32 := fusedOf (iblk m c 0 (pt j)) (iblk m c 1 (pt j)) (iblk m c 2 (pt j)) (iblk m c 3 (pt j))
def validAt (c : Dev nD) (j : ℕ) : FVec F S256x1 .f32 := validOf (iblk m c 0 (pt j))
/-- The block of the two matrices point `j` stores. -/
def w1At (c : Dev nD) (j : ℕ) : FVec F S1024x512 .bf16 := k0_pay4 (iblk m c 4 (pt j))
def w2At (c : Dev nD) (j : ℕ) : FVec F S512x1024 .bf16 := k0_pay5 (iblk m c 5 (pt j))
/-- The four scratch buffers once filled. -/
def W1c (c : Dev nD) : Vec F S1024x4096 .bf16 := colsOf 1024 4096 512 (by decide) (w1At m c)
def W2c (c : Dev nD) : Vec F S4096x1024 .bf16 := rowsOf 4096 1024 512 (by decide) (w2At m c)
def FUc (c : Dev nD) : Vec F S2048x1024 .f32 := rowsOf 2048 1024 256 (by decide) (fusedAt m c)
def VAc (c : Dev nD) : Vec F S2048x1 .f32 := rowsOf 2048 1 256 (by decide) (validAt m c)

/-- What is known of the scratch buffers before point `n`. -/
def Known (c : Dev nD) (n : ℕ) (d7 : Vec F S1024x4096 .bf16) (d8 : Vec F S4096x1024 .bf16) (d9 : Vec F S2048x1024 .f32) (d10 : Vec F S2048x1 .f32) : Prop :=
  (∀ y, (y 1).val < 512 * n → d7 y = W1c m c y) ∧ (∀ y, (y 0).val < 512 * n → d8 y = W2c m c y)
    ∧ (∀ y, (y 0).val < 256 * n → d9 y = FUc m c y) ∧ (∀ y, (y 0).val < 256 * n → d10 y = VAc m c y)

theorem Known.zero (c : Dev nD) (d7 d8 d9 d10) : Known m c 0 d7 d8 d9 d10 :=
  ⟨fun y h => absurd h (by omega), fun y h => absurd h (by omega), fun y h => absurd h (by omega), fun y h => absurd h (by omega)⟩

/-- From point 8 on all four are known whole. -/
theorem Known.full {c : Dev nD} {n : ℕ} (hn : 8 ≤ n) {d7 d8 d9 d10} (h : Known m c n d7 d8 d9 d10) :
    d7 = W1c m c ∧ d8 = W2c m c ∧ d9 = FUc m c ∧ d10 = VAc m c := by
  obtain ⟨h7, h8, h9, h10⟩ := h
  refine ⟨funext fun y => h7 y ?_, funext fun y => h8 y ?_, funext fun y => h9 y ?_, funext fun y => h10 y ?_⟩
  · have : (y 1).val < 4096 := (y 1).isLt; omega
  · have : (y 0).val < 4096 := (y 0).isLt; omega
  · have : (y 0).val < 2048 := (y 0).isLt; omega
  · have : (y 0).val < 2048 := (y 0).isLt; omega

theorem Known.of_full {c : Dev nD} (n : ℕ) : Known m c n (W1c m c) (W2c m c) (FUc m c) (VAc m c) :=
  ⟨fun _ _ => rfl, fun _ _ => rfl, fun _ _ => rfl, fun _ _ => rfl⟩

/-- A point of the first phase extends what is known by its blocks. -/
theorem Known.step {c : Dev nD} {t : Fin cfg0.N} {d7 d8 d9 d10} (h : Known m c t.val d7 d8 d9 d10) :
    Known m c (t.val + 1) (VecWindow.put d7 (k0_off1 (grid0.coords t)) S1024x512.size (k0_pay4 (iblk m c 4 t)))
      (VecWindow.put d8 (k0_off2 (grid0.coords t)) S512x1024.size (k0_pay5 (iblk m c 5 t)))
      (VecWindow.put d9 (k0_off3 (grid0.coords t)) S256x1024.size (fusedOf (iblk m c 0 t) (iblk m c 1 t) (iblk m c 2 t) (iblk m c 3 t)))
      (VecWindow.put d10 (k0_off4 (grid0.coords t)) S256x1.size (validOf (iblk m c 0 t))) := by
  obtain ⟨h7, h8, h9, h10⟩ := h
  refine ⟨?_, ?_, ?_, ?_⟩
  · exact put_cols (by decide) (w1At m c) t.val d7 _ (off1_at t) _ (by unfold w1At; rw [pt_val]) h7
  · exact put_rows (by decide) (w2At m c) t.val d8 _ (off2_at t) _ (by unfold w2At; rw [pt_val]) h8
  · exact put_rows (by decide) (fusedAt m c) t.val d9 _ (off3_at t) _ (by unfold fusedAt; rw [pt_val]) h9
  · exact put_rows (by decide) (validAt m c) t.val d10 _ (off4_at t) _ (by unfold validAt; rw [pt_val]) h10

/-- The output block of batch `j`. -/
def outAt (c : Dev nD) (j : ℕ) : FVec F S1x256x1024 .f32 := outOf (fusedAt m c j) (W1c m c) (W2c m c) (validAt m c j)

/-! ## The proof data -/

abbrev ms0 (t : Fin cfg0.N) : Memref sig .tc .vmem S1x256x2 .i32 := win0_0.stage (cfg0.slots t 0)
abbrev ms1 (t : Fin cfg0.N) : Memref sig .tc .vmem S1x512x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S2048x1024 .f32 := win0_3.stage (cfg0.slots t 3)
abbrev ms4 (t : Fin cfg0.N) : Memref sig .tc .vmem S1024x512 .f32 := win0_4.stage (cfg0.slots t 4)
abbrev ms5 (t : Fin cfg0.N) : Memref sig .tc .vmem S512x1024 .f32 := win0_5.stage (cfg0.slots t 5)
abbrev ms6 (t : Fin cfg0.N) : Memref sig .tc .vmem S1x256x1024 .f32 := win0_6.stage (cfg0.slots t 6)
abbrev sc0 : Memref sig .tc .vmem S1024x4096 .bf16 := Memref.whole cc0_scratch0
abbrev sc1 : Memref sig .tc .vmem S4096x1024 .bf16 := Memref.whole cc0_scratch1
abbrev sc2 : Memref sig .tc .vmem S2048x1024 .f32 := Memref.whole cc0_scratch2
abbrev sc3 : Memref sig .tc .vmem S2048x1 .f32 := Memref.whole cc0_scratch3

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before point `n`: the scratch buffers, known as far as the points have gone, and the generator register. -/
def Inv (c : Dev nD) (n : ℕ) : sProp 𝕄 :=
  iprop((∃ d7 d8 d9 d10, ⌜Known m c n d7 d8 d9 d10⌝ ∗ owns (c : Thread nD τ) sc0 fullShare d7 ∗ owns (c : Thread nD τ) sc1 fullShare d8
    ∗ owns (c : Thread nD τ) sc2 fullShare d9 ∗ owns (c : Thread nD τ) sc3 fullShare d10) ∗ (∃ r, prngReg c r))

/-- The proof data: each input's buffer at its block, the output's at the block of the batch of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c (t.val - 8)
  Φ t := Inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c (t.val - 8) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [live_0 t, after_0]
theorem leaves_1 (c : Dev nD) (t : Fin cfg0.N) : (dats m 0 c).leavesExact 1 t = owns (c : Thread nD τ) (ms1 t) fullShare (iblk m c 1 t) := by
  unfold Dat.leavesExact; rw [live_1 t, after_1]
theorem leaves_2 (c : Dev nD) (t : Fin cfg0.N) : (dats m 0 c).leavesExact 2 t = owns (c : Thread nD τ) (ms2 t) fullShare (iblk m c 2 t) := by
  unfold Dat.leavesExact; rw [live_2 t, after_2]
theorem leaves_3 (c : Dev nD) (t : Fin cfg0.N) : (dats m 0 c).leavesExact 3 t = owns (c : Thread nD τ) (ms3 t) fullShare (iblk m c 3 t) := by
  unfold Dat.leavesExact; rw [live_3 t, after_3]
theorem leaves_4 (c : Dev nD) (t : Fin cfg0.N) : (dats m 0 c).leavesExact 4 t = owns (c : Thread nD τ) (ms4 t) fullShare (iblk m c 4 t) := by
  unfold Dat.leavesExact; rw [live_4 t, after_4]
theorem leaves_5 (c : Dev nD) (t : Fin cfg0.N) : (dats m 0 c).leavesExact 5 t = owns (c : Thread nD τ) (ms5 t) fullShare (iblk m c 5 t) := by
  unfold Dat.leavesExact; rw [live_5 t, after_5]
theorem leaves_6_first (c : Dev nD) (t : Fin cfg0.N) (h : t.val < 8) :
    (dats m 0 c).leavesExact 6 t = iprop(∃ d, owns (c : Thread nD τ) (ms6 t) fullShare ((dats m 0 c).before 6 t d)) :=
  (dats m 0 c).leavesExact_idle 6 t (idle_first t h) (unflushed_first t h)
theorem leaves_6_second (c : Dev nD) (t : Fin cfg0.N) (h : 8 ≤ t.val) :
    (dats m 0 c).leavesExact 6 t = owns (c : Thread nD τ) (ms6 t) fullShare (outAt m c (t.val - 8)) := by
  unfold Dat.leavesExact; rw [live_second t h, after_6]

set_option maxHeartbeats 1600000 in
/-- The body at a point of the first phase. -/
theorem sound_first (c : Dev nD) (t : Fin cfg0.N) (h : t.val < 8) :
    bodyPre m c t ⊢ wp frame (wpE (defs₀ (F := F)) Variants.none c none) Set.univ (bodyAt0 t) (fun _ => bodyPost m c t) := by
  have hn : ¬k0_cond2 (grid0.coords t) = 1#1 := fun e => by have := (second_iff t).mp e; omega
  unfold bodyPre bodyPost bodyAt0
  simp only [before_0, before_1, before_2, before_3, before_4, before_5]
  rw [leaves_0, leaves_1, leaves_2, leaves_3, leaves_4, leaves_5, leaves_6_first m c t h,
    show (dats m 0 c).owesAt () t.succ = (dats m 0 c).owesAt () t.castSucc from rfl,
    show (dats m 0 c).Φ t.succ = Inv m c (t.val + 1) from rfl, show (dats m 0 c).Φ t.castSucc = Inv m c t.val from rfl]
  unfold Inv
  iintro ⟨⟨⟨%d7, %d8, %d9, %d10, %hk, HS0, HS1, HS2, HS3⟩, Hg⟩, Ho, ⟨%e0, H0⟩, ⟨%e1, H1⟩, ⟨%e2, H2⟩, ⟨%e3, H3⟩, ⟨%e4, H4⟩, ⟨%e5, H5⟩, ⟨%e6, H6⟩⟩
  iapply ((runA c (grid0.coords t) _ _ _ _ _ _ _ _ _ _ _ _ _ _ _ _ _ _ _ _ _ _ ((first_iff t).mpr h) hn (iblk m c 0 t) (iblk m c 1 t) (iblk m c 2 t) (iblk m c 3 t) (iblk m c 4 t) (iblk m c 5 t) d7 d8 d9 d10 ((dats m 0 c).before 6 t e6)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · iexists _; iexists _; iexists _; iexists _
      isplitr; · ipureintro; exact hk.step m
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists e6
  iexact H6

set_option maxHeartbeats 1600000 in
/-- The body at a point of the second phase. -/
theorem sound_second (c : Dev nD) (t : Fin cfg0.N) (h : 8 ≤ t.val) :
    bodyPre m c t ⊢ wp frame (wpE (defs₀ (F := F)) Variants.none c none) Set.univ (bodyAt0 t) (fun _ => bodyPost m c t) := by
  have hn : ¬k0_cond1 (grid0.coords t) = 1#1 := fun e => by have := (first_iff t).mp e; omega
  have hy := (second_iff t).mpr h
  unfold bodyPre bodyPost bodyAt0
  simp only [before_0, before_1, before_2, before_3, before_4, before_5]
  rw [leaves_0, leaves_1, leaves_2, leaves_3, leaves_4, leaves_5, leaves_6_second m c t h,
    show (dats m 0 c).owesAt () t.succ = (dats m 0 c).owesAt () t.castSucc from rfl,
    show (dats m 0 c).Φ t.succ = Inv m c (t.val + 1) from rfl, show (dats m 0 c).Φ t.castSucc = Inv m c t.val from rfl]
  have hout : outAt m c (t.val - 8) = outOf (VecWindow.window (FUc m c) (k0_off5 (grid0.coords t)) S256x1024.size (k0_off5_inb (grid0.coords t) hy)) (W1c m c) (W2c m c)
      (VecWindow.window (VAc m c) (k0_off6 (grid0.coords t)) S256x1.size (k0_off6_inb (grid0.coords t) hy)) := by
    unfold outAt
    exact congrArg₂ (fun a b => outOf a (W1c m c) (W2c m c) b)
      (window_rows (by decide) (fusedAt m c) (t.val - 8) _ (off5_at t h) (k0_off5_inb (grid0.coords t) hy)).symm
      (window_rows (by decide) (validAt m c) (t.val - 8) _ (off6_at t h) (k0_off6_inb (grid0.coords t) hy)).symm
  unfold Inv
  iintro ⟨⟨⟨%d7, %d8, %d9, %d10, %hk, HS0, HS1, HS2, HS3⟩, Hg⟩, Ho, ⟨%e0, H0⟩, ⟨%e1, H1⟩, ⟨%e2, H2⟩, ⟨%e3, H3⟩, ⟨%e4, H4⟩, ⟨%e5, H5⟩, ⟨%e6, H6⟩⟩
  obtain ⟨rfl, rfl, rfl, rfl⟩ := Known.full m h hk
  iapply ((runB c (grid0.coords t) _ _ _ _ _ _ _ _ _ _ _ _ _ _ _ _ _ _ _ _ _ _ hn hy (iblk m c 0 t) (iblk m c 1 t) (iblk m c 2 t) (iblk m c 3 t) (iblk m c 4 t) (iblk m c 5 t) (W1c m c) (W2c m c) (FUc m c) (VAc m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · iexists _; iexists _; iexists _; iexists _
      isplitr; · ipureintro; exact Known.of_full m (t.val + 1)
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [hout]
  iexact H6

theorem sound_body (c : Dev nD) (t : Fin cfg0.N) :
    bodyPre m c t ⊢ wp frame (wpE (defs₀ (F := F)) Variants.none c none) Set.univ (bodyAt0 t) (fun _ => bodyPost m c t) := by
  by_cases h : t.val < 8
  · exact sound_first m c t h
  · exact sound_second m c t (Nat.le_of_not_lt h)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : (Pipeline.ΦA spec0 c : sProp 𝕄) ⊢ (dats m 0 c).Φ 0 := by
  rw [PhiA_eq, show (dats m 0 c).Φ 0 = Inv m c 0 from rfl]
  unfold Inv
  iintro ⟨⟨⟨%d7, HS0⟩, ⟨%d8, HS1⟩, ⟨%d9, HS2⟩, ⟨%d10, HS3⟩⟩, Hg⟩
  isplitl [HS0 HS1 HS2 HS3]
  · iexists _; iexists _; iexists _; iexists _
    isplitr; · ipureintro; exact Known.zero m c d7 d8 d9 d10
    isplitl [HS0]; · iexact HS0
    isplitl [HS1]; · iexact HS1
    isplitl [HS2]; · iexact HS2
    iexact HS3
  iexact Hg
theorem inv_out (c : Dev nD) : (dats m 0 c).Φ (Fin.last cfg0.N) ⊢ (Pipeline.ΦA spec0 c : sProp 𝕄) := by
  rw [PhiA_eq, show (dats m 0 c).Φ (Fin.last cfg0.N) = Inv m c cfg0.N from rfl]
  unfold Inv
  iintro ⟨⟨%d7, %d8, %d9, %d10, -, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
set_option maxHeartbeats 800000 in
/-- The launch: the arrays at their final contents, the other buffers as the host lines after the region leave them, every
    semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1, hostOps1_1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hin := inv_in m) (hout := inv_out m)

/-- The frame: every execution ends with the argument arrays unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  frame_of m ρ (dats m) (A_eq m) ((θ_run defs _ _).mono (fun _ h => h.1) (run_main_quiescent m ρ))
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Hand

end
-- ==== Proof.Frames.lean ====
/- The frame claims: the kernel, its idealization and the reference end with their arguments unchanged and no counter up. -/
module

public import proofs.«01_k».proof.Defs
public import proofs.«01_k».proof.Proof.KData
public import proofs.«01_k».proof.Proof.Gen.Pre_as_set_up
public import proofs.«01_k».proof.Proof.Gen.ReferenceIdeal.Run
public import proofs.«01_k».proof.Proof.Data

@[expose] public section

noncomputable section

namespace Cert.Proof

open Idealize.ShloMosaic Idealize.SL.Sem

theorem kernel_frame : Cert.quiescent_Kernel := fun m ρ _ => Cert.Kernel.Hand.frame m ρ
theorem ideal_frame : Cert.quiescent_KernelIdeal := fun m ρ _ => Cert.KernelIdeal.Hand.frame m ρ
theorem ideal_frame_pre : Cert.quiescent_KernelIdeal_pre_as_set_up := fun m ρ _ => Cert.KernelIdeal.Hand.frame m ρ
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem reference_frame_pre : Cert.quiescent_ReferenceIdeal_pre_as_set_up := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.Spec.lean ====
/- One row of the computation in plain arithmetic: what the kernel and the reference both compute for one span of one batch. -/
module

public import proofs.«01_k».proof.Proof.Frames
public import Idealize.ShloMosaic.Lib.Pointwise

@[expose] public section

noncomputable section

namespace Cert.Row

open Idealize.ShloMosaic

/-- Whether the span `[s, e)` is a valid one: it starts at zero or later and ends after it starts. -/
def valid (s e : BitVec 32) : BitVec 1 := IntOp.andi (IntOp.cmpi .sge s 0#32) (IntOp.cmpi .sgt e s)
/-- Whether token `n` lies in the span, and the span is valid. -/
def inSpan (s e : BitVec 32) (n : Fin 512) : BitVec 1 :=
  IntOp.andi (IntOp.andi (IntOp.cmpi .sge (BitVec.ofNat 32 n.val) s) (IntOp.cmpi .slt (BitVec.ofNat 32 n.val) e)) (valid s e)
/-- A condition as the number 0 or 1. -/
def flag (b : BitVec 1) : EReal := ((b.toNat : ℝ) : EReal)
def member (s e : BitVec 32) (n : Fin 512) : EReal := flag (inSpan s e n)
/-- The number of tokens in the span, or 1 if there is none. -/
def count (s e : BitVec 32) : EReal := max (∑ n : Fin 512, member s e n) 1

section Pool
variable (s e : BitVec 32) (x : Fin 512 → Fin 1024 → EReal) (ws : Fin 1024 → EReal) (Wg : Fin 2048 → Fin 1024 → EReal)

/-- The mean of the tokens of the span. -/
def pooled (h : Fin 1024) : EReal := Ideal.div (∑ n : Fin 512, member s e n * x n h) (count s e)
def score (n : Fin 512) : EReal := ∑ h : Fin 1024, x n h * ws h
def logit (n : Fin 512) : EReal := Scalar.select (inSpan s e n) (score x ws n) (Ideal.ofBits .f32 0xF149F2CA#32)
def peak : EReal := Finset.univ.fold max (Ideal.ofBits .f32 0xFF800000#32) fun n : Fin 512 => logit s e x ws n
def weight (n : Fin 512) : EReal := Ideal.exp (logit s e x ws n - peak s e x ws) * member s e n
def total : EReal := max (∑ n : Fin 512, weight s e x ws n) (Ideal.ofBits .f32 0x3089705F#32)
/-- The mean of the tokens of the span weighted by their scores. -/
def attended (h : Fin 1024) : EReal := ∑ n : Fin 512, Ideal.div (weight s e x ws n) (total s e x ws) * x n h
def gate (h : Fin 1024) : EReal :=
  Ideal.logistic ((∑ k : Fin 1024, pooled s e x k * Wg (Fin.castAdd 1024 k) h) + ∑ k : Fin 1024, attended s e x ws k * Wg (Fin.natAdd 1024 k) h)
/-- The two means mixed by the gate. -/
def fused (h : Fin 1024) : EReal :=
  gate s e x ws Wg h * attended s e x ws h + (1 - gate s e x ws Wg h) * pooled s e x h
end Pool

/-- The activation of one hidden unit. -/
def act (p : EReal) : EReal := Ideal.ofBits .f32 0x3F000000#32 * p * (1 + Ideal.erf (p * Ideal.ofBits .f32 0x3F3504F3#32))

section Ffn
variable (f : Fin 1024 → EReal) (W1 : Fin 1024 → Fin 4096 → EReal) (W2 : Fin 4096 → Fin 1024 → EReal)
def hidden (j : Fin 4096) : EReal := ∑ k : Fin 1024, f k * W1 k j
/-- The row with the two-layer network's output added. -/
def summed (h : Fin 1024) : EReal := f h + ∑ j : Fin 4096, act (hidden f W1 j) * W2 j h
end Ffn

section Norm
variable (a : Fin 1024 → EReal)
def mean : EReal := Ideal.div (∑ h : Fin 1024, a h) (Ideal.ofBits .f32 0x44800000#32)
def spread : EReal := Ideal.div (∑ h : Fin 1024, (a h - mean a) * (a h - mean a)) (Ideal.ofBits .f32 0x44800000#32)
/-- The row shifted and scaled to mean zero and spread one. -/
def normed (h : Fin 1024) : EReal := Ideal.div (a h - mean a) (Ideal.sqrt (spread a + Ideal.ofBits .f32 0x3727C5AC#32))
end Norm

/-- The row the computation returns: zero where the span is not valid. -/
def result (s e : BitVec 32) (x : Fin 512 → Fin 1024 → EReal) (ws : Fin 1024 → EReal) (Wg : Fin 2048 → Fin 1024 → EReal)
    (W1 : Fin 1024 → Fin 4096 → EReal) (W2 : Fin 4096 → Fin 1024 → EReal) (h : Fin 1024) : EReal :=
  normed (summed (fused s e x ws Wg) W1 W2) h * flag (valid s e)

/-! ## Laws of the extended reals the two sides differ by -/

/-- A sum of products whose left factors are all divided by one number at least 1. -/
theorem sum_div_mul {ι : Type*} (S : Finset ι) (p x : ι → EReal) (c : EReal) (hc : 1 ≤ c) :
    ∑ n ∈ S, Ideal.div (p n) c * x n = Ideal.div (∑ n ∈ S, p n * x n) c := by
  have h0 : c ≠ 0 := fun h => absurd (h ▸ hc) (by simp)
  have hi : 0 ≤ c⁻¹ := EReal.inv_nonneg_of_nonneg (le_trans zero_le_one hc)
  have ht : c⁻¹ ≠ ⊤ := by
    induction c with
    | bot => simp
    | top => simp
    | coe r => rw [← EReal.coe_inv]; exact EReal.coe_ne_top _
  simp only [Ideal.div, if_neg h0]
  classical
  induction S using Finset.induction_on with
  | empty => simp
  | insert a S ha ih =>
    rw [Finset.sum_insert ha, Finset.sum_insert ha, ih, EReal.right_distrib_of_nonneg_of_ne_top hi ht]
    congr 1
    ac_rfl

theorem one_le_count (s e : BitVec 32) : 1 ≤ count s e := le_max_right _ _

/-- The activation written with the complementary error function. -/
theorem act_eq (p : EReal) :
    Ideal.ofBits .f32 0x3F000000#32 * p * Ideal.erfc (-p * Ideal.ofBits .f32 0x3F3504F3#32) = act p := by
  rw [act, EReal.neg_mul, Ideal.erfc_neg]

end Cert.Row

end
-- ==== Proof.Payload.lean ====
/- What the kernel's stored expressions are at an index, in terms of the plain row. -/
module

public import proofs.«01_k».proof.Proof.Gen.KernelIdeal.Skeleton
public import proofs.«01_k».proof.Proof.Spec
public import Idealize.ShloMosaic.Lib.KernelVsHost

@[expose] public section

noncomputable section

namespace Cert.KernelIdeal.Hand

open Idealize.ShloMosaic Cert.KernelIdeal Cert.KernelIdeal.Gen

/-! ## The span conditions -/

variable (v22 v24 : Vec Ideal S1x256x1 .i32) (w : Fin 256)

theorem pay9_at (u : Fin 1) : k0_pay9 v22 v24 (ix2 w u) = Row.valid (v22 (ix3 0 w 0)) (v24 (ix3 0 w 0)) := by
  pointwise [k0_pay9, k0_pay8, k0_pay7, Row.valid]

theorem pay10_at (n : Fin 512) : k0_pay10 v22 v24 (ix2 w n) = Row.inSpan (v22 (ix3 0 w 0)) (v24 (ix3 0 w 0)) n := by
  pointwise [k0_pay10, k0_pay9, k0_pay8, k0_pay7, Row.inSpan, Row.valid]

theorem pay11_at (n : Fin 512) : k0_pay11 v22 v24 (ix2 w n) = Row.member (v22 (ix3 0 w 0)) (v24 (ix3 0 w 0)) n := by
  unfold k0_pay11 Row.member Row.flag
  rw [sitofp_extui_eq_uitofp, ← pay10_at]
  rfl

theorem pay12_at (u : Fin 1) : k0_pay12 v22 v24 (ix2 w u) = Row.count (v22 (ix3 0 w 0)) (v24 (ix3 0 w 0)) := by
  pointwise [k0_pay12, Row.count]
  simp only [pay11_at]

theorem pay2_at (v29 : IVec S256x1 1) (u : Fin 1) : k0_pay2 (F := Ideal) v29 (ix2 w u) = Row.flag (v29 (ix2 w 0)) := by
  unfold k0_pay2 Row.flag
  rw [sitofp_extui_eq_uitofp]
  pointwise
  rw [Fin.fin_one_eq_zero u]
  rfl

/-! ## The pooled, attended and fused rows -/

section Fused
variable (v21 : FVec Ideal S512x1024 .f32) (v37 : IVec S256x512 1) (v39 : FVec Ideal S256x512 .f32) (v43 : FVec Ideal S256x1 .f32)
  (v44 : Vec Ideal S1x1024 .f32) (v72 v74 : FVec Ideal S1024x1024 .f32)

/-- The masked scores. -/
def logitsOf : FVec Ideal S256x512 .f32 :=
  have v45 := shapeCast S1x1024 v44 shapeCasts_S1x1024_S1x1024
  have v46 : FVec Ideal S512x1024 .f32 := broadcastTo S512x1024 v45 broadcasts_S1x1024_S512x1024
  have v48 : FVec Ideal S512 .f32 := multiReduction .add [1] S512 (mulf v21 v46) 0x00000000#32 reduces_S512x1024_S512 (.inl rfl) rfl
  have v50 : FVec Ideal S1x512 .f32 := shapeCast S1x512 (shapeCast S1x512 v48 shapeCasts_S512_S1x512) shapeCasts_S1x512_S1x512
  select v37 (broadcastTo S256x512 v50 broadcasts_S1x512_S256x512) (broadcast S256x512 (Scalar.ofBits .f32 0xF149F2CA#32))

/-- The unnormalized weights of the scores. -/
def weightsOf (l : FVec Ideal S256x512 .f32) : FVec Ideal S256x512 .f32 :=
  have v54 : FVec Ideal S256 .f32 := multiReduction .maximumf [1] S256 l 0xFF800000#32 reduces_S256x512_S256 (.inl rfl) rfl
  have v56 : FVec Ideal S256x512 .f32 := broadcastTo S256x512 (shapeCast S256x1 v54 shapeCasts_S256_S256x1) broadcasts_S256x1_S256x512
  mulf (exp (subf l v56)) v39

/-- The two kinds of coefficients, one above the other. -/
def coefsOf (e : FVec Ideal S256x512 .f32) : FVec Ideal S512x512 .f32 :=
  have v61 : FVec Ideal S256x1 .f32 := shapeCast S256x1 (multiReduction .add [1] S256 e 0x00000000#32 reduces_S256x512_S256 (.inl rfl) rfl) shapeCasts_S256_S256x1
  have v63 : FVec Ideal S256x1 .f32 := maximumf v61 (broadcast S256x1 (Scalar.ofBits .f32 0x3089705F#32))
  have v65 : FVec Ideal S256x512 .f32 := divf v39 (broadcastTo S256x512 v43 broadcasts_S256x1_S256x512)
  have v67 : FVec Ideal S256x512 .f32 := divf e (broadcastTo S256x512 v63 broadcasts_S256x1_S256x512)
  concatenate S512x512 0 [⟨S256x512, v65⟩, ⟨S256x512, v67⟩] concatenates_S256x512_S256x512_S512x512_d0

/-- The coefficients applied to the tokens. -/
def meansOf (q : FVec Ideal S512x512 .f32) : FVec Ideal S512x1024 .f32 :=
  matmul dot_S512x512_S512x1024_S512x1024_1_0_0_1_n_n none q v21 (constant S512x1024 .f32 0x00000000#32)

/-- The two means mixed by the gate. -/
def mixOf (p : FVec Ideal S512x1024 .f32) : FVec Ideal S256x1024 .f32 :=
  have v70 : FVec Ideal S256x1024 .f32 := extractStridedSlice S256x1024 ![0, 0] p slices_S512x1024_o0_0_S256x1024
  have v71 : FVec Ideal S256x1024 .f32 := extractStridedSlice S256x1024 ![256, 0] p slices_S512x1024_o256_0_S256x1024
  have v73 : FVec Ideal S256x1024 .f32 := matmul dot_S256x1024_S1024x1024_S256x1024_1_0_0_1_n_n none v70 v72 (constant S256x1024 .f32 0x00000000#32)
  have v75 : FVec Ideal S256x1024 .f32 := matmul dot_S256x1024_S1024x1024_S256x1024_1_0_0_1_n_n none v71 v74 (constant S256x1024 .f32 0x00000000#32)
  have v77 : FVec Ideal S256x1024 .f32 := logistic (addf v73 v75)
  addf (mulf v77 v71) (mulf (subf (broadcast S256x1024 (Scalar.ofBits .f32 0x3F800000#32)) v77) v70)

theorem pay13_eq : k0_pay13 v21 v37 v39 v43 v44 v72 v74 = mixOf v72 v74 (meansOf v21 (coefsOf v39 v43 (weightsOf v39 (logitsOf v21 v37 v44)))) := rfl

variable (s e : Fin 256 → BitVec 32) (x : Fin 512 → Fin 1024 → EReal) (ws : Fin 1024 → EReal) (Wg : Fin 2048 → Fin 1024 → EReal)

theorem logitsOf_at (h37 : ∀ w n, v37 (ix2 w n) = Row.inSpan (s w) (e w) n) (h21 : ∀ n h, v21 (ix2 n h) = x n h) (h44 : ∀ h, v44 (ix2 0 h) = ws h)
    (n : Fin 512) : logitsOf v21 v37 v44 (ix2 w n) = Row.logit (s w) (e w) x ws n := by
  pointwise [logitsOf, Row.logit, Row.score]
  simp only [h37, h21, h44]

theorem weightsOf_at (l : FVec Ideal S256x512 .f32) (hl : ∀ w n, l (ix2 w n) = Row.logit (s w) (e w) x ws n)
    (h39 : ∀ w n, v39 (ix2 w n) = Row.member (s w) (e w) n) (n : Fin 512) : weightsOf v39 l (ix2 w n) = Row.weight (s w) (e w) x ws n := by
  pointwise [weightsOf, Row.weight, Row.peak]
  simp only [hl, h39]

theorem coefsOf_top (q : FVec Ideal S256x512 .f32) (hc : ∀ w, v43 (ix2 w 0) = Row.count (s w) (e w))
    (h39 : ∀ w n, v39 (ix2 w n) = Row.member (s w) (e w) n) (k : Fin 512) (hk : k.val = w.val) (n : Fin 512) :
    coefsOf v39 v43 q (ix2 k n) = Ideal.div (Row.member (s w) (e w) n) (Row.count (s w) (e w)) := by
  pointwise [coefsOf]
  rw [dif_pos (by omega : k.val < 256), show (⟨k.val, by omega⟩ : Fin 256) = w from Fin.ext hk, h39, hc]

theorem coefsOf_bot (q : FVec Ideal S256x512 .f32) (hq : ∀ w n, q (ix2 w n) = Row.weight (s w) (e w) x ws n)
    (k : Fin 512) (hk : k.val = 256 + w.val) (n : Fin 512) :
    coefsOf v39 v43 q (ix2 k n) = Ideal.div (Row.weight (s w) (e w) x ws n) (Row.total (s w) (e w) x ws) := by
  pointwise [coefsOf, Row.total]
  rw [dif_neg (by omega : ¬ k.val < 256), show (⟨k.val - 256, by omega⟩ : Fin 256) = w from Fin.ext (by omega : k.val - 256 = w.val)]
  simp only [hq]

/-- The means are the pooled rows above the attended rows. -/
theorem meansOf_at (q : FVec Ideal S512x512 .f32) (k : Fin 512) (h : Fin 1024) (h21 : ∀ n h, v21 (ix2 n h) = x n h) :
    meansOf v21 q (ix2 k h) = ∑ n : Fin 512, q (ix2 k n) * x n h := by
  pointwise [meansOf]
  simp only [h21]

theorem mixOf_at (p : FVec Ideal S512x1024 .f32) (hp : ∀ w h, p (ix2 ⟨w.val, by omega⟩ h) = Row.pooled (s w) (e w) x h)
    (ha : ∀ w h, p (ix2 ⟨256 + w.val, by omega⟩ h) = Row.attended (s w) (e w) x ws h)
    (h72 : ∀ k h, v72 (ix2 k h) = Wg (Fin.castAdd 1024 k) h) (h74 : ∀ k h, v74 (ix2 k h) = Wg (Fin.natAdd 1024 k) h) (h : Fin 1024) :
    mixOf v72 v74 p (ix2 w h) = Row.fused (s w) (e w) x ws Wg h := by
  pointwise [mixOf, Row.fused, Row.gate]
  simp only [hp, ha, h72, h74]

/-- The fused rows. -/
theorem pay13_at (h37 : ∀ w n, v37 (ix2 w n) = Row.inSpan (s w) (e w) n) (h39 : ∀ w n, v39 (ix2 w n) = Row.member (s w) (e w) n)
    (hc : ∀ w, v43 (ix2 w 0) = Row.count (s w) (e w)) (h21 : ∀ n h, v21 (ix2 n h) = x n h) (h44 : ∀ h, v44 (ix2 0 h) = ws h)
    (h72 : ∀ k h, v72 (ix2 k h) = Wg (Fin.castAdd 1024 k) h) (h74 : ∀ k h, v74 (ix2 k h) = Wg (Fin.natAdd 1024 k) h) (h : Fin 1024) :
    k0_pay13 v21 v37 v39 v43 v44 v72 v74 (ix2 w h) = Row.fused (s w) (e w) x ws Wg h := by
  have hw : ∀ w n, weightsOf v39 (logitsOf v21 v37 v44) (ix2 w n) = Row.weight (s w) (e w) x ws n := fun w n =>
    weightsOf_at w v39 s e x ws _ (fun w n => logitsOf_at w v21 v37 v44 s e x ws h37 h21 h44 n) h39 n
  rw [pay13_eq]
  refine mixOf_at w v72 v74 s e x ws Wg _ (fun w h => ?_) (fun w h => ?_) h72 h74 h
  · rw [meansOf_at v21 x _ _ _ h21, Row.pooled, ← Row.sum_div_mul _ _ _ _ (Row.one_le_count (s w) (e w))]
    exact Finset.sum_congr rfl fun n _ => by rw [coefsOf_top w v39 v43 s e _ hc h39 _ rfl]
  · rw [meansOf_at v21 x _ _ _ h21, Row.attended]
    exact Finset.sum_congr rfl fun n _ => by rw [coefsOf_bot w v39 v43 s e x ws _ hw _ rfl]
end Fused

/-! ## The network and the normalization -/

section Ffn
variable (f : FVec Ideal S256x1024 .f32) (w1 : FVec Ideal S1024x4096 .bf16) (w2 : FVec Ideal S4096x1024 .bf16)

/-- The hidden units after the activation. -/
def actsOf : FVec Ideal S256x4096 .f32 :=
  have v12 : FVec Ideal S256x4096 .f32 := matmul dot_S256x1024_S1024x4096_S256x4096_1_0_0_1_n_n none (truncf .bf16 f bitsLt_bf16_f32) w1 (constant S256x4096 .f32 0x00000000#32)
  have v14 : FVec Ideal S256x4096 .f32 := mulf (broadcast S256x4096 (Scalar.ofBits .f32 0x3F000000#32)) v12
  have v17 : FVec Ideal S256x4096 .f32 := erf (mulf v12 (broadcast S256x4096 (Scalar.ofBits .f32 0x3F3504F3#32)))
  mulf v14 (addf (broadcast S256x4096 (Scalar.ofBits .f32 0x3F800000#32)) v17)

/-- The rows with the network's output added. -/
def sumsOf (a : FVec Ideal S256x4096 .f32) : FVec Ideal S256x1024 .f32 :=
  have v23 : FVec Ideal S256x1024 .f32 := matmul dot_S256x4096_S4096x1024_S256x1024_1_0_0_1_n_n none (truncf .bf16 a bitsLt_bf16_f32) w2 (constant S256x1024 .f32 0x00000000#32)
  addf f v23

/-- Each row less its mean. -/
def centredOf (a : FVec Ideal S256x1024 .f32) : FVec Ideal S256x1024 .f32 :=
  have v25 : FVec Ideal S256 .f32 := multiReduction .add [1] S256 a 0x00000000#32 reduces_S256x1024_S256 (.inl rfl) rfl
  have v28 : FVec Ideal S256x1 .f32 := divf (shapeCast S256x1 v25 shapeCasts_S256_S256x1) (broadcast S256x1 (Scalar.ofBits .f32 0x44800000#32))
  subf a (broadcastTo S256x1024 v28 broadcasts_S256x1_S256x1024)

/-- The centred rows divided by their spread. -/
def scaledOf (d : FVec Ideal S256x1024 .f32) : FVec Ideal S256x1024 .f32 :=
  have v32 : FVec Ideal S256 .f32 := multiReduction .add [1] S256 (mulf d d) 0x00000000#32 reduces_S256x1024_S256 (.inl rfl) rfl
  have v35 : FVec Ideal S256x1 .f32 := divf (shapeCast S256x1 v32 shapeCasts_S256_S256x1) (broadcast S256x1 (Scalar.ofBits .f32 0x44800000#32))
  have v40 : FVec Ideal S256x1 .f32 := sqrt (addf v35 (broadcast S256x1 (Scalar.ofBits .f32 0x3727C5AC#32)))
  divf d (broadcastTo S256x1024 v40 broadcasts_S256x1_S256x1024)

theorem pay14_eq : k0_pay14 (F := Ideal) f w1 w2 = scaledOf (centredOf (sumsOf f w2 (actsOf f w1))) := rfl

variable (g : Fin 256 → Fin 1024 → EReal) (W1 : Fin 1024 → Fin 4096 → EReal) (W2 : Fin 4096 → Fin 1024 → EReal)

theorem actsOf_at (hf : ∀ w h, f (ix2 w h) = g w h) (h1 : ∀ k j, w1 (ix2 k j) = W1 k j) (j : Fin 4096) :
    actsOf f w1 (ix2 w j) = Row.act (Row.hidden (g w) W1 j) := by
  pointwise [actsOf, Row.act, Row.hidden]
  simp only [hf, h1, Ideal.erf_def]

theorem sumsOf_at (a : FVec Ideal S256x4096 .f32) (hf : ∀ w h, f (ix2 w h) = g w h) (h2 : ∀ j h, w2 (ix2 j h) = W2 j h)
    (ha : ∀ w j, a (ix2 w j) = Row.act (Row.hidden (g w) W1 j)) (h : Fin 1024) : sumsOf f w2 a (ix2 w h) = Row.summed (g w) W1 W2 h := by
  pointwise [sumsOf, Row.summed]
  simp only [hf, h2, ha]

theorem centredOf_at (a : FVec Ideal S256x1024 .f32) (r : Fin 256 → Fin 1024 → EReal) (ha : ∀ w h, a (ix2 w h) = r w h) (h : Fin 1024) :
    centredOf a (ix2 w h) = r w h - Row.mean (r w) := by
  pointwise [centredOf, Row.mean]
  simp only [ha]

theorem scaledOf_at (d : FVec Ideal S256x1024 .f32) (r : Fin 256 → Fin 1024 → EReal) (hd : ∀ w h, d (ix2 w h) = r w h - Row.mean (r w)) (h : Fin 1024) :
    scaledOf d (ix2 w h) = Row.normed (r w) h := by
  pointwise [scaledOf, Row.normed, Row.spread]
  simp only [hd]

theorem pay14_at (hf : ∀ w h, f (ix2 w h) = g w h) (h1 : ∀ k j, w1 (ix2 k j) = W1 k j) (h2 : ∀ j h, w2 (ix2 j h) = W2 j h) (h : Fin 1024) :
    k0_pay14 (F := Ideal) f w1 w2 (ix2 w h) = Row.normed (Row.summed (g w) W1 W2) h := by
  rw [pay14_eq]
  exact scaledOf_at w _ (fun w => Row.summed (g w) W1 W2)
    (fun w h => centredOf_at w _ _ (fun w h => sumsOf_at w f w2 g W1 W2 _ hf h2 (fun w j => actsOf_at w f w1 g W1 hf h1 j) h) h) h

/-- The stored block: the normalized rows, each times its valid flag. -/
theorem pay3_at (v : FVec Ideal S256x1 .f32) (u : Fin 1) (h : Fin 1024) :
    k0_pay3 f (k0_pay15 v) (ix3 u w h) = f (ix2 w h) * v (ix2 w 0) := by
  pointwise [k0_pay3, k0_pay15]

end Ffn

end Cert.KernelIdeal.Hand

end
-- ==== Proof.RefVal.lean ====
/- What the reference's composed terms are at an index, in terms of the plain row. -/
module

public import proofs.«01_k».proof.Proof.Gen.ReferenceIdeal.Run
public import proofs.«01_k».proof.Proof.Payload

@[expose] public section

noncomputable section

namespace Cert.ReferenceIdeal.Hand

open Idealize.ShloMosaic Cert.ReferenceIdeal Cert.ReferenceIdeal.Gen Cert.ReferenceIdeal.Value Idealize.ShloMosaic.StableHlo

variable (V : Valuation τ sig (Elt Ideal)) (b : Fin 8) (w : Fin 256)

/-! ## The arguments as functions of plain indices -/

def tok : Fin 512 → Fin 1024 → EReal := fun n h => (V (Proc.devRef .tc main_arg0) : FVec Ideal S8x512x1024 .f32) (ix3 b n h)
def st : BitVec 32 := (V (Proc.devRef .tc main_arg1) : IVec S8x256x2 32) (ix3 b w 0)
def en : BitVec 32 := (V (Proc.devRef .tc main_arg1) : IVec S8x256x2 32) (ix3 b w 1)
def ws : Fin 1024 → EReal := fun h => (V (Proc.devRef .tc main_arg2) : FVec Ideal S1024x1 .f32) (ix2 h 0)
def Wg : Fin 2048 → Fin 1024 → EReal := fun k h => (V (Proc.devRef .tc main_arg4) : FVec Ideal S2048x1024 .f32) (ix2 k h)
def W1 : Fin 1024 → Fin 4096 → EReal := fun k j => (V (Proc.devRef .tc main_arg6) : FVec Ideal S1024x4096 .f32) (ix2 k j)
def W2 : Fin 4096 → Fin 1024 → EReal := fun j h => (V (Proc.devRef .tc main_arg8) : FVec Ideal S4096x1024 .f32) (ix2 j h)

/-! ## The span conditions -/

theorem v1_at : (res_main_v1 V : IVec S8x256 32) (ix2 b w) = st V b w := by
  pointwise [res_main_v1, st]
theorem v3_at : (res_main_v3 V : IVec S8x256 32) (ix2 b w) = en V b w := by
  pointwise [res_main_v3, en]
theorem v7_at : (res_main_v7 V : IVec S8x256 1) (ix2 b w) = Row.valid (st V b w) (en V b w) := by
  pointwise [res_main_v7, Row.valid]
  simp only [v1_at, v3_at]
theorem v22_at (n : Fin 512) : (res_main_v22 V : IVec S8x256x512 1) (ix3 b w n) = Row.inSpan (st V b w) (en V b w) n := by
  pointwise [res_main_v22, res_main_v8, Row.inSpan]
  simp only [v1_at, v3_at, v7_at]
theorem v23_at (n : Fin 512) : (res_main_v23 V : FVec Ideal S8x256x512 .f32) (ix3 b w n) = Row.member (st V b w) (en V b w) n := by
  unfold res_main_v23 Row.member Row.flag
  rw [← v22_at]
  rfl

/-! ## The parameters that are zero or one -/

def b3 : FVec Ideal S1 .f32 := V (Proc.devRef .tc main_arg3)
def b5 : FVec Ideal S1024 .f32 := V (Proc.devRef .tc main_arg5)
def b7 : FVec Ideal S4096 .f32 := V (Proc.devRef .tc main_arg7)
def b9 : FVec Ideal S1024 .f32 := V (Proc.devRef .tc main_arg9)
def b10 : FVec Ideal S1024 .f32 := V (Proc.devRef .tc main_arg10)
def b11 : FVec Ideal S1024 .f32 := V (Proc.devRef .tc main_arg11)
/-- The five parameters at zero and the scale at one. -/
structure Set : Prop where
  h3 : ∀ u, b3 V u = 0
  h5 : ∀ u, b5 V u = 0
  h7 : ∀ u, b7 V u = 0
  h9 : ∀ u, b9 V u = 0
  h10 : ∀ u, b10 V u = 1
  h11 : ∀ u, b11 V u = 0

/-! ## The two means -/

theorem v29_at (h : Fin 1024) : (res_main_v29 V : FVec Ideal S8x256x1024 .f32) (ix3 b w h) = Row.pooled (st V b w) (en V b w) (tok V b) h := by
  pointwise [res_main_v29, Row.pooled, Row.count, tok, id_eq]
  simp only [v23_at]
  rw [max_comm]

theorem v36_at (hV : Set V) (n : Fin 512) :
    (res_main_v36 V : FVec Ideal S8x256x512 .f32) (ix3 b w n) = Row.logit (st V b w) (en V b w) (tok V b) (ws V) n := by
  pointwise [res_main_v36, Row.logit, Row.score, tok, ws, id_eq]
  rw [show V (Proc.devRef .tc main_arg3) (ix1 0) = (0 : EReal) from hV.h3 _, add_zero, v22_at]

theorem reduces_S8x256x512_S8x256 : S8x256x512.Reduces [2] S8x256 := by decide

theorem v42_at (hV : Set V) (n : Fin 512) :
    (res_main_v42 V : FVec Ideal S8x256x512 .f32) (ix3 b w n) = Row.weight (st V b w) (en V b w) (tok V b) (ws V) n := by
  unfold res_main_v42
  rw [hostReduce_maximumf_eq_multiReduction (φ := .f32) _ 0xFF800000#32 _ _ reduces_S8x256x512_S8x256 (.inl rfl) rfl]
  pointwise [Row.weight, Row.peak]
  simp only [v36_at V _ _ hV, v23_at]

theorem v48_at (hV : Set V) (h : Fin 1024) :
    (res_main_v48 V : FVec Ideal S8x256x1024 .f32) (ix3 b w h) = Row.attended (st V b w) (en V b w) (tok V b) (ws V) h := by
  pointwise [res_main_v48, Row.attended, Row.total, tok, id_eq]
  simp only [v42_at V _ _ hV]
  rw [max_comm]

/-! ## The gate and the fused rows -/

theorem v59_at (hV : Set V) (h : Fin 1024) :
    (res_main_v59 V : FVec Ideal S8x256x1024 .f32) (ix3 b w h) = Row.gate (st V b w) (en V b w) (tok V b) (ws V) (Wg V) h := by
  pointwise [res_main_v59, Row.gate, Ideal.logistic, Wg]
  rw [show V (Proc.devRef .tc main_arg5) (ix1 h) = (0 : EReal) from hV.h5 _, add_zero]
  simp only [v29_at, v48_at V _ _ hV]
  rfl

theorem v64_at (hV : Set V) (h : Fin 1024) :
    (res_main_v64 V : FVec Ideal S8x256x1024 .f32) (ix3 b w h) = Row.fused (st V b w) (en V b w) (tok V b) (ws V) (Wg V) h := by
  pointwise [res_main_v64, Row.fused]
  simp only [v59_at V _ _ hV, v48_at V _ _ hV, v29_at]

/-! ## The network and the normalization -/

abbrev fu : Fin 1024 → EReal := Row.fused (st V b w) (en V b w) (tok V b) (ws V) (Wg V)
abbrev su : Fin 1024 → EReal := Row.summed (fu V b w) (W1 V) (W2 V)

theorem v68_at (hV : Set V) (j : Fin 4096) : (res_main_v68 V : FVec Ideal S8x256x4096 .f32) (ix3 b w j) = Row.hidden (fu V b w) (W1 V) j := by
  pointwise [res_main_v68, Row.hidden, W1]
  rw [show V (Proc.devRef .tc main_arg7) (ix1 j) = (0 : EReal) from hV.h7 _, add_zero]
  simp only [v64_at V _ _ hV]

theorem v80_at (hV : Set V) (h : Fin 1024) : (res_main_v80 V : FVec Ideal S8x256x1024 .f32) (ix3 b w h) = su V b w h := by
  pointwise [res_main_v80, su, Row.summed, W2]
  rw [show V (Proc.devRef .tc main_arg9) (ix1 h) = (0 : EReal) from hV.h9 _, add_zero]
  simp only [v64_at V _ _ hV, v68_at V _ _ hV, Row.act_eq]

theorem v84_at (hV : Set V) (u : Fin 1) : (res_main_v84 V : FVec Ideal S8x256x1 .f32) (ix3 b w u) = Row.mean (su V b w) := by
  pointwise [res_main_v84, Row.mean]
  simp only [v80_at V _ _ hV]

theorem v86_at (hV : Set V) (h : Fin 1024) : (res_main_v86 V : FVec Ideal S8x256x1024 .f32) (ix3 b w h) = su V b w h - Row.mean (su V b w) := by
  pointwise [res_main_v86]
  simp only [v80_at V _ _ hV, v84_at V _ _ hV]

/-- The reference's first result. -/
def out : FVec Ideal S8x256x1024 .f32 :=
  mulf (addf (mulf (Host.divf (subf (res_main_v80 V) (broadcastInDim S8x256x1024 ![0, 1, 2] bcast_S8x256x1_S8x256x1024_0_1_2 (res_main_v84 V))) (broadcastInDim S8x256x1024 ![0, 1, 2] bcast_S8x256x1_S8x256x1024_0_1_2 (Host.sqrt (addf (Host.divf (broadcastInDim S8x256x1 ![0, 1] bcast_S8x256_S8x256x1_0_1 (Host.reduceAdd (mulf (res_main_v86 V) (res_main_v86 V)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x3727C5AC#32)))))) (broadcastInDim S8x256x1024 ![0, 1, 2] bcast_S1x1x1024_S8x256x1024_0_1_2 (broadcastInDim S1x1x1024 ![2] bcast_S1024_S1x1x1024_2 (V (Proc.devRef .tc main_arg10))))) (broadcastInDim S8x256x1024 ![0, 1, 2] bcast_S1x1x1024_S8x256x1024_0_1_2 (broadcastInDim S1x1x1024 ![2] bcast_S1024_S1x1x1024_2 (V (Proc.devRef .tc main_arg11))))) (broadcastInDim S8x256x1024 ![0, 1, 2] bcast_S8x256x1_S8x256x1024_0_1_2 (uitofp .f32 (broadcastInDim S8x256x1 ![0, 1] bcast_S8x256_S8x256x1_0_1 (res_main_v7 V))))

theorem out_at (hV : Set V) (h : Fin 1024) :
    out V (ix3 b w h) = Row.result (st V b w) (en V b w) (tok V b) (ws V) (Wg V) (W1 V) (W2 V) h := by
  pointwise [out, Row.result, Row.normed, Row.spread]
  rw [show V (Proc.devRef .tc main_arg10) (ix1 h) = (1 : EReal) from hV.h10 _, show V (Proc.devRef .tc main_arg11) (ix1 h) = (0 : EReal) from hV.h11 _,
    mul_one, add_zero]
  simp only [v80_at V _ _ hV, v84_at V _ _ hV, v86_at V _ _ hV, v7_at]
  rfl

end Cert.ReferenceIdeal.Hand

end
-- ==== Proof.Value.lean ====
/- What the kernel's three results hold at the end of a run, as functions of its arguments. -/
module

public import proofs.«01_k».proof.Proof.RefVal
public import Idealize.ShloMosaic.Lib.StableHlo.Run
public import Idealize.ShloMosaic.Lib.Tactic

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal.Gen

variable (m : (ℓ : Loc nD τ sig) → Buf (Elt Ideal) ℓ) (ρ : Dev nD → PrngReg) (c : Dev nD)

/-! ## The arguments -/

def aTok : FVec Ideal S8x512x1024 .f32 := m ((c : Thread nD τ).loc main_arg0)
def aSpan : IVec S8x256x2 32 := m ((c : Thread nD τ).loc main_arg1)
def aWs : FVec Ideal S1024x1 .f32 := m ((c : Thread nD τ).loc main_arg2)
def aWg : FVec Ideal S2048x1024 .f32 := m ((c : Thread nD τ).loc main_arg4)
def aW1 : FVec Ideal S1024x4096 .f32 := m ((c : Thread nD τ).loc main_arg6)
def aW2 : FVec Ideal S4096x1024 .f32 := m ((c : Thread nD τ).loc main_arg8)

/-! ## The blocks a point reads -/

theorem at_0 : ∀ b : Fin 8, win0_0.index (pt b.val) 0 = b.val ∧ win0_0.index (pt b.val) 1 = 0 ∧ win0_0.index (pt b.val) 2 = 0 := by decide +kernel
theorem at_1 : ∀ b : Fin 8, win0_1.index (pt b.val) 0 = b.val ∧ win0_1.index (pt b.val) 1 = 0 ∧ win0_1.index (pt b.val) 2 = 0 := by decide +kernel
theorem at_2 : ∀ b : Fin 8, win0_2.index (pt b.val) 0 = 0 ∧ win0_2.index (pt b.val) 1 = 0 := by decide +kernel
theorem at_3 : ∀ b : Fin 8, win0_3.index (pt b.val) 0 = 0 ∧ win0_3.index (pt b.val) 1 = 0 := by decide +kernel
theorem at_4 : ∀ b : Fin 8, win0_4.index (pt b.val) 0 = 0 ∧ win0_4.index (pt b.val) 1 = b.val := by decide +kernel
theorem at_5 : ∀ b : Fin 8, win0_5.index (pt b.val) 0 = b.val ∧ win0_5.index (pt b.val) 1 = 0 := by decide +kernel
theorem at_6 : ∀ t : Fin cfg0.N, win0_6.index t 0 = t.val - 8 ∧ win0_6.index t 1 = 0 ∧ win0_6.index t 2 = 0 :=
  (by decide +kernel : ∀ t : Fin grid0.N, win0_6.index t 0 = t.val - 8 ∧ win0_6.index t 1 = 0 ∧ win0_6.index t 2 = 0)

theorem spans_at (b : Fin 8) (u : Fin 1) (w : Fin 256) (k : Fin 2) :
    (iblk m c 0 (pt b.val) : IVec S1x256x2 32) (ix3 u w k) = aSpan m c (ix3 b w k) := by
  obtain ⟨h0, h1, h2⟩ := at_0 b
  unfold iblk aSpan
  rw [View.read_apply, ← V_main_arg1 m c]
  show V m c main_arg1 _ = V m c main_arg1 _
  congr 1
  funext a
  apply Fin.ext
  match a with
  | ⟨0, _⟩ => show win0_0.index (pt b.val) 0 * 1 + 1 * u.val = b.val; rw [h0]; omega
  | ⟨1, _⟩ => show win0_0.index (pt b.val) 1 * 256 + 1 * w.val = w.val; rw [h1]; omega
  | ⟨2, _⟩ => show win0_0.index (pt b.val) 2 * 2 + 1 * k.val = k.val; rw [h2]; omega

theorem toks_at (b : Fin 8) (u : Fin 1) (n : Fin 512) (h : Fin 1024) :
    (iblk m c 1 (pt b.val) : FVec Ideal S1x512x1024 .f32) (ix3 u n h) = aTok m c (ix3 b n h) := by
  obtain ⟨h0, h1, h2⟩ := at_1 b
  unfold iblk aTok
  rw [View.read_apply, ← V_main_arg0 m c]
  show V m c main_arg0 _ = V m c main_arg0 _
  congr 1
  funext a
  apply Fin.ext
  match a with
  | ⟨0, _⟩ => show win0_1.index (pt b.val) 0 * 1 + 1 * u.val = b.val; rw [h0]; omega
  | ⟨1, _⟩ => show win0_1.index (pt b.val) 1 * 512 + 1 * n.val = n.val; rw [h1]; omega
  | ⟨2, _⟩ => show win0_1.index (pt b.val) 2 * 1024 + 1 * h.val = h.val; rw [h2]; omega

theorem scores_at (b : Fin 8) (u : Fin 1) (h : Fin 1024) :
    (iblk m c 2 (pt b.val) : FVec Ideal S1x1024 .f32) (ix2 u h) = aWs m c (ix2 h 0) := by
  obtain ⟨h0, h1⟩ := at_2 b
  have hV : (V m c main_v0 : FVec Ideal S1x1024 .f32) = shapeCast S1x1024 (aWs m c) shapeCasts_S1024x1_S1x1024 := by
    entry_read
    rfl
  have hr : (iblk m c 2 (pt b.val) : FVec Ideal S1x1024 .f32) (ix2 u h) = (V m c main_v0 : FVec Ideal S1x1024 .f32) (ix2 u h) := by
    unfold iblk
    rw [View.read_apply]
    show V m c main_v0 _ = V m c main_v0 _
    congr 1
    funext a
    apply Fin.ext
    match a with
    | ⟨0, _⟩ => show win0_2.index (pt b.val) 0 * 1 + 1 * u.val = u.val; rw [h0]; omega
    | ⟨1, _⟩ => show win0_2.index (pt b.val) 1 * 1024 + 1 * h.val = h.val; rw [h1]; omega
  rw [hr, hV]
  pointwise

theorem gates_at (b : Fin 8) (k : Fin 2048) (h : Fin 1024) :
    (iblk m c 3 (pt b.val) : FVec Ideal S2048x1024 .f32) (ix2 k h) = aWg m c (ix2 k h) := by
  obtain ⟨h0, h1⟩ := at_3 b
  unfold iblk aWg
  rw [View.read_apply, ← V_main_arg4 m c]
  show V m c main_arg4 _ = V m c main_arg4 _
  congr 1
  funext a
  apply Fin.ext
  match a with
  | ⟨0, _⟩ => show win0_3.index (pt b.val) 0 * 2048 + 1 * k.val = k.val; rw [h0]; omega
  | ⟨1, _⟩ => show win0_3.index (pt b.val) 1 * 1024 + 1 * h.val = h.val; rw [h1]; omega

theorem cols_at (b : Fin 8) (k : Fin 1024) (j : Fin 512) (i : Fin 4096) (hi : i.val = 512 * b.val + j.val) :
    (iblk m c 4 (pt b.val) : FVec Ideal S1024x512 .f32) (ix2 k j) = aW1 m c (ix2 k i) := by
  obtain ⟨h0, h1⟩ := at_4 b
  unfold iblk aW1
  rw [View.read_apply, ← V_main_arg6 m c]
  show V m c main_arg6 _ = V m c main_arg6 _
  congr 1
  funext a
  apply Fin.ext
  match a with
  | ⟨0, _⟩ => show win0_4.index (pt b.val) 0 * 1024 + 1 * k.val = k.val; rw [h0]; omega
  | ⟨1, _⟩ => show win0_4.index (pt b.val) 1 * 512 + 1 * j.val = i.val; rw [h1, hi]; omega

theorem rows_at (b : Fin 8) (j : Fin 512) (h : Fin 1024) (i : Fin 4096) (hi : i.val = 512 * b.val + j.val) :
    (iblk m c 5 (pt b.val) : FVec Ideal S512x1024 .f32) (ix2 j h) = aW2 m c (ix2 i h) := by
  obtain ⟨h0, h1⟩ := at_5 b
  unfold iblk aW2
  rw [View.read_apply, ← V_main_arg8 m c]
  show V m c main_arg8 _ = V m c main_arg8 _
  congr 1
  funext a
  apply Fin.ext
  match a with
  | ⟨0, _⟩ => show win0_5.index (pt b.val) 0 * 512 + 1 * j.val = i.val; rw [h0, hi]; omega
  | ⟨1, _⟩ => show win0_5.index (pt b.val) 1 * 1024 + 1 * h.val = h.val; rw [h1]; omega

/-! ## The scratch buffers once filled -/

theorem W1c_at (k : Fin 1024) (i : Fin 4096) : (W1c m c : FVec Ideal S1024x4096 .bf16) (ix2 k i) = aW1 m c (ix2 k i) := by
  have hi := i.isLt
  unfold W1c
  rw [colsOf_at (R := 1024) (C := 4096) (by decide) (w1At m c) (i.val / 512) (ix2 k i) (ix2 k ⟨i.val % 512, Nat.mod_lt _ (by decide)⟩) rfl
    (by show i.val = 512 * (i.val / 512) + i.val % 512; omega)]
  unfold w1At
  pointwise [k0_pay4]
  exact cols_at m c ⟨i.val / 512, by omega⟩ k _ i (by show i.val = 512 * (i.val / 512) + i.val % 512; omega)

theorem W2c_at (i : Fin 4096) (h : Fin 1024) : (W2c m c : FVec Ideal S4096x1024 .bf16) (ix2 i h) = aW2 m c (ix2 i h) := by
  have hi := i.isLt
  unfold W2c
  rw [rowsOf_at (R := 4096) (C := 1024) (by decide) (w2At m c) (i.val / 512) (ix2 i h) (ix2 ⟨i.val % 512, Nat.mod_lt _ (by decide)⟩ h)
    (by show i.val = 512 * (i.val / 512) + i.val % 512; omega) rfl]
  unfold w2At
  pointwise [k0_pay5]
  exact rows_at m c ⟨i.val / 512, by omega⟩ _ h i (by show i.val = 512 * (i.val / 512) + i.val % 512; omega)

theorem starts_at (b : Fin 8) (w : Fin 256) : startsOf (F := Ideal) (iblk m c 0 (pt b.val)) (ix3 0 w 0) = aSpan m c (ix3 b w 0) := by
  rw [← spans_at m c b 0 w 0]
  unfold startsOf VecWindow.window
  congr 1
  funext a
  apply Fin.ext
  match a with
  | ⟨0, _⟩ => rfl
  | ⟨1, _⟩ => show 0 + 1 * w.val = w.val; omega
  | ⟨2, _⟩ => rfl

theorem ends_at (b : Fin 8) (w : Fin 256) : endsOf (F := Ideal) (iblk m c 0 (pt b.val)) (ix3 0 w 0) = aSpan m c (ix3 b w 1) := by
  rw [← spans_at m c b 0 w 1]
  unfold endsOf VecWindow.window
  congr 1
  funext a
  apply Fin.ext
  match a with
  | ⟨0, _⟩ => rfl
  | ⟨1, _⟩ => show 0 + 1 * w.val = w.val; omega
  | ⟨2, _⟩ => rfl

theorem top_at (b : Fin 8) (k h : Fin 1024) : topOf (F := Ideal) (iblk m c 3 (pt b.val)) (ix2 k h) = aWg m c (ix2 (Fin.castAdd 1024 k) h) := by
  rw [← gates_at m c b]
  unfold topOf VecWindow.window
  congr 1
  funext a
  apply Fin.ext
  match a with
  | ⟨0, _⟩ => show 0 + 1 * k.val = k.val; omega
  | ⟨1, _⟩ => show 0 + 1 * h.val = h.val; omega

theorem bot_at (b : Fin 8) (k h : Fin 1024) : botOf (F := Ideal) (iblk m c 3 (pt b.val)) (ix2 k h) = aWg m c (ix2 (Fin.natAdd 1024 k) h) := by
  rw [← gates_at m c b]
  unfold botOf VecWindow.window
  congr 1
  funext a
  apply Fin.ext
  match a with
  | ⟨0, _⟩ => show 1024 + 1 * k.val = 1024 + k.val; omega
  | ⟨1, _⟩ => show 0 + 1 * h.val = h.val; omega

/-! ## One batch -/

theorem fusedAt_at (b : Fin 8) (w : Fin 256) (h : Fin 1024) : (fusedAt m c b.val : FVec Ideal S256x1024 .f32) (ix2 w h)
    = Row.fused (aSpan m c (ix3 b w 0)) (aSpan m c (ix3 b w 1)) (fun n h => aTok m c (ix3 b n h)) (fun h => aWs m c (ix2 h 0)) (fun k h => aWg m c (ix2 k h)) h := by
  unfold fusedAt fusedOf
  pointwise [k0_pay1]
  refine pay13_at (s := fun w => aSpan m c (ix3 b w 0)) (e := fun w => aSpan m c (ix3 b w 1)) (h37 := ?_) (h39 := ?_) (hc := ?_) (h21 := ?_) (h44 := ?_) (h72 := ?_) (h74 := ?_) ..
  · intro w n; rw [pay10_at, starts_at, ends_at]
  · intro w n; rw [pay11_at, starts_at, ends_at]
  · intro w; rw [pay12_at, starts_at, ends_at]
  · intro n h
    pointwise [k0_pay6]
    exact toks_at m c b 0 n h
  · intro h; exact scores_at m c b 0 h
  · intro k h; exact top_at m c b k h
  · intro k h; exact bot_at m c b k h

theorem validAt_at (b : Fin 8) (w : Fin 256) : (validAt m c b.val : FVec Ideal S256x1 .f32) (ix2 w 0)
    = Row.flag (Row.valid (aSpan m c (ix3 b w 0)) (aSpan m c (ix3 b w 1))) := by
  unfold validAt validOf
  rw [pay2_at, pay9_at, starts_at, ends_at]

/-- The block of results of batch `b`. -/
theorem outAt_at (b : Fin 8) (u : Fin 1) (w : Fin 256) (h : Fin 1024) : (outAt m c b.val : FVec Ideal S1x256x1024 .f32) (ix3 u w h)
    = Row.result (aSpan m c (ix3 b w 0)) (aSpan m c (ix3 b w 1)) (fun n h => aTok m c (ix3 b n h)) (fun h => aWs m c (ix2 h 0)) (fun k h => aWg m c (ix2 k h))
      (fun k j => aW1 m c (ix2 k j)) (fun j h => aW2 m c (ix2 j h)) h := by
  unfold outAt outOf Row.result
  rw [pay3_at, validAt_at, pay14_at (hf := fun w h => fusedAt_at m c b w h) (h1 := fun k j => W1c_at m c k j) (h2 := fun j h => W2c_at m c j h)]

/-! ## The first result: its blocks put together -/

/-- The first result: the block of each batch at its place. -/
def result : FVec Ideal S8x256x1024 .f32 := fun i => (outAt m c (i 0).val : FVec Ideal S1x256x1024 .f32) (ix3 0 (i 1) (i 2))

theorem flushed_eq (t : Fin cfg0.N) (hf : (cfg0.win 6).flush t = true) :
    (dats m 0 c).flushed 6 t = ((cfg0.win 6).blk t).view.read (Elt Ideal) (result m c) := by
  have h8 := (flushed_second t).mp hf
  obtain ⟨h0, h1, h2⟩ := at_6 t
  show (cfg0.win 6).cut (grid0.coords t) ((dats m 0 c).after 6 t) = _
  rw [after_6]
  funext j
  rw [View.read_apply]
  have e0 : ((((cfg0.win 6).blk t).view.emb j) 0).val = t.val - 8 := by
    show win0_6.index t 0 * 1 + 1 * (j 0).val = t.val - 8
    have : (j 0).val < 1 := (j 0).isLt
    rw [h0]; omega
  have e1 : ((((cfg0.win 6).blk t).view.emb j) 1).val = (j 1).val := by
    show win0_6.index t 1 * 256 + 1 * (j 1).val = (j 1).val
    rw [h1]; omega
  have e2 : ((((cfg0.win 6).blk t).view.emb j) 2).val = (j 2).val := by
    show win0_6.index t 2 * 1024 + 1 * (j 2).val = (j 2).val
    rw [h2]; omega
  show (outAt m c (t.val - 8) : FVec Ideal S1x256x1024 .f32) _ = (outAt m c _ : FVec Ideal S1x256x1024 .f32) _
  rw [e0]
  congr 1
  funext a
  apply Fin.ext
  match a with
  | ⟨0, _⟩ => have : (j 0).val < 1 := (j 0).isLt
              show (j 0).val = 0; omega
  | ⟨1, _⟩ => exact e1.symm
  | ⟨2, _⟩ => exact e2.symm

theorem final_o : (dats m 0 c).arrAt 6 cfg0.N = result m c :=
  (dats m 0 c).arrAt_eq_of_cover 6 (result m c) (flushed_eq m c) fun i => by
    have hi0 : (i 0 : Nat) < 8 := (i 0).isLt
    have hi1 : (i 1 : Nat) < 256 := (i 1).isLt
    have hi2 : (i 2 : Nat) < 1024 := (i 2).isLt
    have ht : 8 + (i 0 : Nat) < cfg0.N := by rw [show cfg0.N = 16 from N_0]; omega
    obtain ⟨h0, h1, h2⟩ := at_6 ⟨8 + (i 0 : Nat), ht⟩
    have hx : ∀ t : Fin grid0.N, win0_6.xsize (grid0.coords t) 0 = 1 ∧ win0_6.xsize (grid0.coords t) 1 = 256 ∧ win0_6.xsize (grid0.coords t) 2 = 1024 := by decide +kernel
    obtain ⟨x0, x1, x2⟩ := hx ⟨8 + (i 0 : Nat), ht⟩
    refine ⟨⟨8 + (i 0 : Nat), ht⟩, (flushed_second _).mpr (Nat.le_add_right _ _), ?_⟩
    show i ∈ ((View.whole main_v1).slice (win0_6.rect ⟨8 + (i 0 : Nat), ht⟩)).set
    rw [View.set_slice_whole, Rect.mem_set_unit]
    intro a
    match a with
    | ⟨0, _⟩ => show win0_6.index ⟨8 + (i 0 : Nat), ht⟩ 0 * 1 ≤ (i 0 : Nat) ∧ (i 0 : Nat) < win0_6.index ⟨8 + (i 0 : Nat), ht⟩ 0 * 1 + win0_6.xsize (grid0.coords ⟨8 + (i 0 : Nat), ht⟩) 0
                rw [h0, x0]; dsimp only; omega
    | ⟨1, _⟩ => show win0_6.index ⟨8 + (i 0 : Nat), ht⟩ 1 * 256 ≤ (i 1 : Nat) ∧ (i 1 : Nat) < win0_6.index ⟨8 + (i 0 : Nat), ht⟩ 1 * 256 + win0_6.xsize (grid0.coords ⟨8 + (i 0 : Nat), ht⟩) 1
                rw [h1, x1]; omega
    | ⟨2, _⟩ => show win0_6.index ⟨8 + (i 0 : Nat), ht⟩ 2 * 1024 ≤ (i 2 : Nat) ∧ (i 2 : Nat) < win0_6.index ⟨8 + (i 0 : Nat), ht⟩ 2 * 1024 + win0_6.xsize (grid0.coords ⟨8 + (i 0 : Nat), ht⟩) 2
                rw [h2, x2]; omega

/-! ## The second and third results: the host's own operations on the spans -/

/-- The starts and the ends of the spans, which of the spans are valid, and the start of each valid span with −1 at the others. -/
def starts : IVec S8x256 32 := shapeCast S8x256 (extractStridedSlice S8x256x1 ![0, 0, 0] (aSpan m c) slices_S8x256x2_S8x256x1_0_0_0) shapeCasts_S8x256x1_S8x256
def ends : IVec S8x256 32 := shapeCast S8x256 (extractStridedSlice S8x256x1 ![0, 0, 1] (aSpan m c) slices_S8x256x2_S8x256x1_0_0_1) shapeCasts_S8x256x1_S8x256
def valids : IVec S8x256 1 := andi (cmpi .sge (starts m c) (broadcastInDim S8x256 ![] bcast_S_S8x256 (constantI S_ 32 0#32))) (cmpi .sgt (ends m c) (starts m c))
def indices : IVec S8x256 32 := select (valids m c) (starts m c) (broadcastInDim S8x256 ![] bcast_S_S8x256 (id (constantI S_ 32 4294967295#32)))

theorem span_kept : (Pipeline.withArrays spec0 c (V0 m c) fun w => (dats m 0 c).arrAt w cfg0.N) (Proc.devRef .tc main_arg1) = m ((c : Thread nD τ).loc main_arg1) :=
  (Pipeline.withArrays_arr spec0 (by decide) c (V0 m c) (fun w => (dats m 0 c).arrAt w cfg0.N) 0).trans
    (((dats m 0 c).arrAt_in 0 rfl _).trans ((A_eq m c 0).trans (V_main_arg1 m c)))

theorem after_valids : Pipeline.afterTail₀ cfgs (dats m) 0 (V0 m) [hostOps1, hostOps1_1] c main_v9 = valids m c := by
  unfold Pipeline.afterTail₀
  have e := span_kept m c
  generalize (Pipeline.withArrays spec0 c (V0 m c) fun w => (dats m 0 c).arrAt w cfg0.N) = σ at e
  show StableHlo.after _ σ _ = _
  unfold hostOps1 hostOps1_1
  simp only [List.flatten_cons, List.flatten_nil, List.append_nil, List.cons_append, List.nil_append, StableHlo.TRef.unary, StableHlo.TRef.ternary, StableHlo.TRef.toBuf, StableHlo.TRef.ofBuf, cast_eq]
  after_results_simp
  rw [e]
  rfl

theorem after_indices : Pipeline.afterTail₀ cfgs (dats m) 0 (V0 m) [hostOps1, hostOps1_1] c main_v10 = indices m c := by
  unfold Pipeline.afterTail₀
  have e := span_kept m c
  generalize (Pipeline.withArrays spec0 c (V0 m c) fun w => (dats m 0 c).arrAt w cfg0.N) = σ at e
  show StableHlo.after _ σ _ = _
  unfold hostOps1 hostOps1_1
  simp only [List.flatten_cons, List.flatten_nil, List.append_nil, List.cons_append, List.nil_append, StableHlo.TRef.unary, StableHlo.TRef.ternary, StableHlo.TRef.toBuf, StableHlo.TRef.ofBuf, cast_eq]
  after_results_simp
  rw [e]
  rfl

/-- A run of the kernel ends with the three results at these contents. -/
theorem run_results : θ_run defs (onTc (τ := τ) (main (F := Ideal))) ⟨m, fun _ => 0, ρ⟩ fun r => ∀ c : Dev nD,
    r.2.mem ((c.tc : Thread nD τ).loc main_v1) = result m c
    ∧ r.2.mem ((c.tc : Thread nD τ).loc main_v9) = valids m c
    ∧ r.2.mem ((c.tc : Thread nD τ).loc main_v10) = indices m c :=
  (θ_run defs _ _).mono (fun _ h c => ⟨((h.1 c).1 6).trans (final_o m c),
      ((h.1 c).2 main_v9 (Pipeline.mem_restRefs_of main_v9 (by decide) (by decide))).trans (after_valids m c),
      ((h.1 c).2 main_v10 (Pipeline.mem_restRefs_of main_v10 (by decide) (by decide))).trans (after_indices m c)⟩)
    (run_main_quiescent m ρ)

end Cert.KernelIdeal.Hand

end
-- ==== Proof.Equal.lean ====
/- The kernel and the reference end with the same three results, at arguments where the biases are zero and the scale is one. -/
module

public import proofs.«01_k».proof.Proof.Value
public import Idealize.ShloMosaic.Lib.ReduceAll

@[expose] public section

set_option maxRecDepth 16384

noncomputable section

namespace Cert.Proof

open Idealize.ShloMosaic Idealize.ShloMosaic.TcCoe Idealize.SL.Sem

/-! ## What the precondition says -/

/-- A comparison of two arrays that holds everywhere: they are equal at each index. -/
theorem each_eq {s t u : Shape} [Subsingleton t.Idx] {axes : List (Fin s.rank)} {x y : FVec Ideal s .f32} {init : u.Idx → BitVec 1}
    {h : s.ReducesTo axes t} {hu : 0 < u.numel} {j : t.Idx} (e : Host.reduce IntOp.andi (cmpf .oeq x y) init h hu j = 1#1) (i : s.Idx) : x i = y i := by
  have hi := Host.reduce_andi_all _ init h hu j e i
  change BitVec.ofBool (decide (x i = y i)) = 1#1 at hi
  by_contra hne
  rw [decide_eq_false hne] at hi
  exact absurd hi (by decide)

instance : Subsingleton Cert.Pre_as_set_up.S_.Idx := ⟨fun a b => funext fun k => k.elim0⟩

theorem and_split {a b : IVec Cert.Pre_as_set_up.S_ 1} {j : Cert.Pre_as_set_up.S_.Idx} (h : andi a b j = 1#1) : a j = 1#1 ∧ b j = 1#1 :=
  IntOp.andi_eq_one.1 h

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def Agree : Prop :=
  ∀ c : Dev Cert.KernelIdeal.nD,
m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m'}

/-- The precondition, with equal arguments, says of the reference's arguments what its value needs. -/
theorem set_of (hp : Cert.Pre_KernelIdeal_as_set_up m) (ha : Agree m m') (c : Dev Cert.ReferenceIdeal.nD) :
    Cert.ReferenceIdeal.Hand.Set (StableHlo.launchContents m' c) := by
  obtain ⟨_, _, _, a3, _, a5, _, a7, _, a9, a10, a11⟩ := ha c
  have hj := congrFun (hp c) (fun k => k.elim0)
  unfold Cert.Pre_as_set_up.fn Cert.Pre_as_set_up.fn_part1 at hj
  dsimp only at hj
  obtain ⟨hj, h11⟩ := and_split hj
  obtain ⟨hj, h10⟩ := and_split hj
  obtain ⟨hj, h9⟩ := and_split hj
  obtain ⟨hj, h7⟩ := and_split hj
  obtain ⟨h3, h5⟩ := and_split hj
  constructor
  · intro u; exact (congrFun a3 u).trans ((each_eq h3 u).trans Ideal.ofBits_zero_f32)
  · intro u; exact (congrFun a5 u).trans ((each_eq h5 u).trans Ideal.ofBits_zero_f32)
  · intro u; exact (congrFun a7 u).trans ((each_eq h7 u).trans Ideal.ofBits_zero_f32)
  · intro u; exact (congrFun a9 u).trans ((each_eq h9 u).trans Ideal.ofBits_zero_f32)
  · intro u; exact (congrFun a10 u).trans ((each_eq h10 u).trans Ideal.ofBits_one_f32)
  · intro u; exact (congrFun a11 u).trans ((each_eq h11 u).trans Ideal.ofBits_zero_f32)

/-! ## The three results are equal -/

open Cert.ReferenceIdeal.Hand in
theorem first_eq (hp : Cert.Pre_KernelIdeal_as_set_up m) (ha : Agree m m') (c : Dev Cert.ReferenceIdeal.nD) :
    out (StableHlo.launchContents m' c) = Cert.KernelIdeal.Hand.result m c := by
  obtain ⟨a0, a1, a2, _, a4, _, a6, _, a8, _⟩ := ha c
  funext i
  rw [eq_ix3 i]
  refine (out_at _ _ _ (set_of hp ha c) _).trans ?_
  refine Eq.trans ?_ (Cert.KernelIdeal.Hand.outAt_at m c (i 0) 0 (i 1) (i 2)).symm
  have e0 : tok (StableHlo.launchContents m' c) (i 0) = fun n h => Cert.KernelIdeal.Hand.aTok m c (ix3 (i 0) n h) := funext fun n => funext fun h => congrFun a0 _
  have e1 : st (StableHlo.launchContents m' c) (i 0) (i 1) = Cert.KernelIdeal.Hand.aSpan m c (ix3 (i 0) (i 1) 0) := congrFun a1 _
  have e1' : en (StableHlo.launchContents m' c) (i 0) (i 1) = Cert.KernelIdeal.Hand.aSpan m c (ix3 (i 0) (i 1) 1) := congrFun a1 _
  have e2 : ws (StableHlo.launchContents m' c) = fun h => Cert.KernelIdeal.Hand.aWs m c (ix2 h 0) := funext fun h => congrFun a2 _
  have e4 : Wg (StableHlo.launchContents m' c) = fun k h => Cert.KernelIdeal.Hand.aWg m c (ix2 k h) := funext fun k => funext fun h => congrFun a4 _
  have e6 : W1 (StableHlo.launchContents m' c) = fun k j => Cert.KernelIdeal.Hand.aW1 m c (ix2 k j) := funext fun k => funext fun h => congrFun a6 _
  have e8 : W2 (StableHlo.launchContents m' c) = fun j h => Cert.KernelIdeal.Hand.aW2 m c (ix2 j h) := funext fun k => funext fun h => congrFun a8 _
  rw [← e0, ← e1, ← e1', ← e2, ← e4, ← e6, ← e8]

theorem starts_eq (ha : Agree m m') (c : Dev Cert.ReferenceIdeal.nD) :
    Cert.ReferenceIdeal.Value.res_main_v1 (StableHlo.launchContents m' c) = Cert.KernelIdeal.Hand.starts m c := by
  unfold Cert.ReferenceIdeal.Value.res_main_v1 Cert.KernelIdeal.Hand.starts Cert.KernelIdeal.Hand.aSpan
  rw [← (ha c).2.1]
  rfl

theorem second_eq (ha : Agree m m') (c : Dev Cert.ReferenceIdeal.nD) :
    Cert.ReferenceIdeal.Value.res_main_v7 (StableHlo.launchContents m' c) = Cert.KernelIdeal.Hand.valids m c := by
  have e3 : Cert.ReferenceIdeal.Value.res_main_v3 (StableHlo.launchContents m' c) = Cert.KernelIdeal.Hand.ends m c := by
    unfold Cert.ReferenceIdeal.Value.res_main_v3 Cert.KernelIdeal.Hand.ends Cert.KernelIdeal.Hand.aSpan
    rw [← (ha c).2.1]
    rfl
  unfold Cert.ReferenceIdeal.Value.res_main_v7 Cert.KernelIdeal.Hand.valids
  rw [starts_eq ha c, e3]

theorem values_equal : Cert.algebraic_KernelIdeal_ReferenceIdeal_pre_as_set_up := fun m g m' g' hp ha => by
  refine ⟨Cert.KernelIdeal.Hand.result m, Cert.KernelIdeal.Hand.valids m, Cert.KernelIdeal.Hand.indices m, ?_, ?_⟩
  · exact (θ_run _ _ _).mono (fun _ h c => ⟨(h.1 c).1, (h.1 c).2.1, (h.1 c).2.2, h.2 c⟩)
      (θ_run_and (Cert.KernelIdeal.Hand.run_results m g) (Cert.KernelIdeal.Hand.unchanged m g))
  · refine (θ_run _ _ _).mono (fun _ h c => ⟨(h c).1.trans (first_eq hp ha c), (h c).2.1.trans (second_eq ha c), (h c).2.2.1.trans ?_, (h c).2.2.2⟩)
      (Cert.ReferenceIdeal.Value.run (F := Ideal) m' g')
    rw [second_eq ha c, starts_eq ha c]
    rfl

end Cert.Proof

end
-- ==== Proof.lean ====
/- The certificate: every claim, from the frame theorems and the equality of the values. -/
module

public import proofs.«01_k».proof.Defs
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_as_set_up
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_as_set_up.Gen.facts,
    kernel_frame, ideal_frame, ideal_frame_pre, reference_frame, reference_frame_pre, trivial, values_equal⟩

end Cert.Proof

end
